-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pos_in_range [hPre_pos_in_range : Cert.Pre_pos_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pos_in_range [hPre_pos_in_range : Cert.Pre_pos_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_pos_in_range [hKernelIdeal : Cert.KernelIdeal.Facts] [hPre_pos_in_range : Cert.Pre_pos_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pos_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_pos_in_range [hReferenceIdeal : Cert.ReferenceIdeal.Facts] [hPre_pos_in_range : Cert.Pre_pos_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pos_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_pos_in_range [hKernelIdeal : Cert.KernelIdeal.Facts] [hReferenceIdeal : Cert.ReferenceIdeal.Facts] [hPre_pos_in_range : Cert.Pre_pos_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pos_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v121)) (v2 : (c : Dev Cert.KernelIdeal.nD) → Buf (Elt Ideal) ((c.tc : Thread Cert.KernelIdeal.nD Cert.KernelIdeal.τ).loc Cert.KernelIdeal.main_v122)) (v3 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v121) = v1 c
          ∧ r.2.mem ((c.tc : Thread Cert.KernelIdeal.nD Cert.KernelIdeal.τ).loc Cert.KernelIdeal.main_v122) = v2 c
          ∧ r.2.mem ((c.tc : Thread Cert.KernelIdeal.nD Cert.KernelIdeal.τ).loc Cert.KernelIdeal.main_v123) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_pos_in_range : Cert.Pre_pos_in_range.Facts),
    quiescent_Kernel (hKernel := hKernel)
    ∧ quiescent_KernelIdeal (hKernelIdeal := hKernelIdeal)
    ∧ quiescent_KernelIdeal_pre_pos_in_range (hKernelIdeal := hKernelIdeal) (hPre_pos_in_range := hPre_pos_in_range)
    ∧ quiescent_ReferenceIdeal (hReferenceIdeal := hReferenceIdeal)
    ∧ quiescent_ReferenceIdeal_pre_pos_in_range (hReferenceIdeal := hReferenceIdeal) (hPre_pos_in_range := hPre_pos_in_range)
    ∧ preserves_Kernel_KernelIdeal
    ∧ algebraic_KernelIdeal_ReferenceIdeal_pre_pos_in_range (hKernelIdeal := hKernelIdeal) (hReferenceIdeal := hReferenceIdeal) (hPre_pos_in_range := hPre_pos_in_range)
-- ==== Pre_pos_in_range.lean ====
abbrev S32768x128 : Shape := ⟨2, ![32768, 128]⟩
abbrev S64x512x128 : Shape := ⟨3, ![64, 512, 128]⟩
abbrev S128x128 : Shape := ⟨2, ![128, 128]⟩
abbrev S46x128 : Shape := ⟨2, ![46, 128]⟩
abbrev S128 : Shape := ⟨1, ![128]⟩
abbrev S46 : Shape := ⟨1, ![46]⟩
abbrev S128x512 : Shape := ⟨2, ![128, 512]⟩
abbrev S512 : Shape := ⟨1, ![512]⟩
abbrev S2x393216 : Shape := ⟨2, ![2, 393216]⟩
abbrev S393216 : Shape := ⟨1, ![393216]⟩
abbrev S64x4 : Shape := ⟨2, ![64, 4]⟩
abbrev S_ : Shape := ⟨0, ![]⟩

class Facts : Prop where
  bcast_S_S64x4 : S_.BroadcastsInDim S64x4 (![] : Fin 0 → Fin S64x4.rank)
  reducesTo_S64x4_S_d0_1 : S64x4.ReducesTo [0, 1] S_
  h_S_ : 0 < S_.numel

variable [Facts]

def fn {F : FTy → Type} [FloatOps F] (main_arg0 : FVec F S32768x128 .f32) (main_arg1 : FVec F S64x512x128 .f32) (main_arg2 : FVec F S128x128 .f32) (main_arg3 : FVec F S46x128 .f32) (main_arg4 : FVec F S128 .f32) (main_arg5 : FVec F S46 .f32) (main_arg6 : FVec F S128x128 .f32) (main_arg7 : FVec F S46x128 .f32) (main_arg8 : FVec F S128 .f32) (main_arg9 : FVec F S46 .f32) (main_arg10 : FVec F S128x512 .f32) (main_arg11 : FVec F S128x512 .f32) (main_arg12 : FVec F S512 .f32) (main_arg13 : FVec F S512 .f32) (main_arg14 : IVec S2x393216 32) (main_arg15 : IVec S393216 32) (main_arg16 : IVec S64x4 32) (main_arg17 : IVec S64x4 32) : IVec S_ 1 :=
  let main_c : IVec S_ 32 := constantI S_ 32 0#32
  let main_v0 : IVec S64x4 32 := broadcastInDim S64x4 ![] bcast_S_S64x4 main_c
  let main_v1 : IVec S64x4 1 := cmpi .sge main_arg16 main_v0
  let main_c_0 : IVec S_ 32 := constantI S_ 32 512#32
  let main_v2 : IVec S64x4 32 := broadcastInDim S64x4 ![] bcast_S_S64x4 main_c_0
  let main_v3 : IVec S64x4 1 := cmpi .slt main_arg16 main_v2
  let main_v4 : IVec S64x4 1 := andi main_v1 main_v3
  let main_c_1 : IVec S_ 1 := constantI S_ 1 1#1
  let main_v5 : IVec S_ 1 := (fun x v => Host.reduce IntOp.andi x v reducesTo_S64x4_S_d0_1 h_S_) main_v4 main_c_1
  let main_c_2 : IVec S_ 32 := constantI S_ 32 0#32
  let main_v6 : IVec S64x4 32 := broadcastInDim S64x4 ![] bcast_S_S64x4 main_c_2
  let main_v7 : IVec S64x4 1 := cmpi .sge main_arg17 main_v6
  let main_c_3 : IVec S_ 32 := constantI S_ 32 512#32
  let main_v8 : IVec S64x4 32 := broadcastInDim S64x4 ![] bcast_S_S64x4 main_c_3
  let main_v9 : IVec S64x4 1 := cmpi .slt main_arg17 main_v8
  let main_v10 : IVec S64x4 1 := andi main_v7 main_v9
  let main_c_4 : IVec S_ 1 := constantI S_ 1 1#1
  let main_v11 : IVec S_ 1 := (fun x v => Host.reduce IntOp.andi x v reducesTo_S64x4_S_d0_1 h_S_) main_v10 main_c_4
  let main_v12 : IVec S_ 1 := andi main_v5 main_v11
  main_v12
-- ==== Kernel.lean ====
abbrev S32768x128 : Shape := ⟨2, ![32768, 128]⟩
abbrev S64x512x128 : Shape := ⟨3, ![64, 512, 128]⟩
abbrev S128x128 : Shape := ⟨2, ![128, 128]⟩
abbrev S46x128 : Shape := ⟨2, ![46, 128]⟩
abbrev S128 : Shape := ⟨1, ![128]⟩
abbrev S46 : Shape := ⟨1, ![46]⟩
abbrev S128x512 : Shape := ⟨2, ![128, 512]⟩
abbrev S512 : Shape := ⟨1, ![512]⟩
abbrev S2x393216 : Shape := ⟨2, ![2, 393216]⟩
abbrev S393216 : Shape := ⟨1, ![393216]⟩
abbrev S64x4 : Shape := ⟨2, ![64, 4]⟩
abbrev S1x393216 : Shape := ⟨2, ![1, 393216]⟩
abbrev S_ : Shape := ⟨0, ![]⟩
abbrev S393216x1 : Shape := ⟨2, ![393216, 1]⟩
abbrev S393216x128 : Shape := ⟨2, ![393216, 128]⟩
abbrev S32768 : Shape := ⟨1, ![32768]⟩
abbrev S256x512 : Shape := ⟨2, ![256, 512]⟩
abbrev S1x512 : Shape := ⟨2, ![1, 512]⟩
abbrev S512x64x128 : Shape := ⟨3, ![512, 64, 128]⟩
abbrev S64x128 : Shape := ⟨2, ![64, 128]⟩
abbrev S1x64x128 : Shape := ⟨3, ![1, 64, 128]⟩
abbrev S64x256 : Shape := ⟨2, ![64, 256]⟩
abbrev S64x512 : Shape := ⟨2, ![64, 512]⟩
abbrev S64 : Shape := ⟨1, ![64]⟩
abbrev S64x1 : Shape := ⟨2, ![64, 1]⟩
abbrev S64x4x1 : Shape := ⟨3, ![64, 4, 1]⟩
abbrev S1 : Shape := ⟨1, ![1]⟩
abbrev S1x1x1 : Shape := ⟨3, ![1, 1, 1]⟩
abbrev S64x4x128 : Shape := ⟨3, ![64, 4, 128]⟩
abbrev S8192 : Shape := ⟨1, ![8192]⟩

abbrev nBuf : Space → Nat
  | .hbm => 219
  | .vmem => 10
  | .smem => 0
  | _ => 0

abbrev hbmTy0_0 (i : Nat) : BufTy := match i % 128 with
  | 0 => ⟨S32768x128, .f32⟩
  | 1 => ⟨S64x512x128, .f32⟩
  | 2 => ⟨S128x128, .f32⟩
  | 3 => ⟨S46x128, .f32⟩
  | 4 => ⟨S128, .f32⟩
  | 5 => ⟨S46, .f32⟩
  | 6 => ⟨S128x128, .f32⟩
  | 7 => ⟨S46x128, .f32⟩
  | 8 => ⟨S128, .f32⟩
  | 9 => ⟨S46, .f32⟩
  | 10 => ⟨S128x512, .f32⟩
  | 11 => ⟨S128x512, .f32⟩
  | 12 => ⟨S512, .f32⟩
  | 13 => ⟨S512, .f32⟩
  | 14 => ⟨S2x393216, .i32⟩
  | 15 => ⟨S393216, .i32⟩
  | 16 => ⟨S64x4, .i32⟩
  | 17 => ⟨S64x4, .i32⟩
  | 18 => ⟨S1x393216, .i32⟩
  | 19 => ⟨S393216, .i32⟩
  | 20 => ⟨S1x393216, .i32⟩
  | 21 => ⟨S393216, .i32⟩
  | 22 => ⟨S32768x128, .f32⟩
  | 23 => ⟨S_, .i32⟩
  | 24 => ⟨S393216, .i32⟩
  | 25 => ⟨S393216, .i1⟩
  | 26 => ⟨S_, .i32⟩
  | 27 => ⟨S393216, .i32⟩
  | 28 => ⟨S393216, .i32⟩
  | 29 => ⟨S393216, .i32⟩
  | 30 => ⟨S393216x1, .i32⟩
  | 31 => ⟨S393216x128, .f32⟩
  | 32 => ⟨S_, .i32⟩
  | 33 => ⟨S393216, .i32⟩
  | 34 => ⟨S393216, .i1⟩
  | 35 => ⟨S_, .i32⟩
  | 36 => ⟨S393216, .i32⟩
  | 37 => ⟨S393216, .i32⟩
  | 38 => ⟨S393216, .i32⟩
  | 39 => ⟨S393216x1, .i32⟩
  | 40 => ⟨S393216x128, .f32⟩
  | 41 => ⟨S393216x128, .f32⟩
  | 42 => ⟨S32768, .f32⟩
  | 43 => ⟨S_, .i32⟩
  | 44 => ⟨S393216, .i32⟩
  | 45 => ⟨S393216, .i1⟩
  | 46 => ⟨S_, .i32⟩
  | 47 => ⟨S393216, .i32⟩
  | 48 => ⟨S393216, .i32⟩
  | 49 => ⟨S393216, .i32⟩
  | 50 => ⟨S393216x1, .i32⟩
  | 51 => ⟨S393216, .f32⟩
  | 52 => ⟨S_, .i32⟩
  | 53 => ⟨S393216, .i32⟩
  | 54 => ⟨S393216, .i1⟩
  | 55 => ⟨S_, .i32⟩
  | 56 => ⟨S393216, .i32⟩
  | 57 => ⟨S393216, .i32⟩
  | 58 => ⟨S393216, .i32⟩
  | 59 => ⟨S393216x1, .i32⟩
  | 60 => ⟨S393216, .f32⟩
  | 61 => ⟨S393216, .f32⟩
  | 62 => ⟨S393216, .f32⟩
  | 63 => ⟨S393216, .f32⟩
  | 64 => ⟨S_, .f32⟩
  | 65 => ⟨S393216, .f32⟩
  | 66 => ⟨S393216, .f32⟩
  | 67 => ⟨S_, .f32⟩
  | 68 => ⟨S393216, .f32⟩
  | 69 => ⟨S393216, .f32⟩
  | 70 => ⟨S_, .f32⟩
  | 71 => ⟨S32768x128, .f32⟩
  | 72 => ⟨S393216x1, .f32⟩
  | 73 => ⟨S393216x128, .f32⟩
  | 74 => ⟨S393216x128, .f32⟩
  | 75 => ⟨S_, .i32⟩
  | 76 => ⟨S393216, .i32⟩
  | 77 => ⟨S393216, .i1⟩
  | 78 => ⟨S_, .i32⟩
  | 79 => ⟨S393216, .i32⟩
  | 80 => ⟨S393216, .i32⟩
  | 81 => ⟨S393216, .i32⟩
  | 82 => ⟨S393216x1, .i32⟩
  | 83 => ⟨S32768x128, .f32⟩
  | 84 => ⟨S_, .f32⟩
  | 85 => ⟨S32768x128, .f32⟩
  | 86 => ⟨S32768x128, .f32⟩
  | 87 => ⟨S32768x128, .f32⟩
  | 88 => ⟨S_, .i32⟩
  | 89 => ⟨S393216, .i32⟩
  | 90 => ⟨S393216, .i1⟩
  | 91 => ⟨S_, .i32⟩
  | 92 => ⟨S393216, .i32⟩
  | 93 => ⟨S393216, .i32⟩
  | 94 => ⟨S393216, .i32⟩
  | 95 => ⟨S393216x1, .i32⟩
  | 96 => ⟨S393216x128, .f32⟩
  | 97 => ⟨S_, .i32⟩
  | 98 => ⟨S393216, .i32⟩
  | 99 => ⟨S393216, .i1⟩
  | 100 => ⟨S_, .i32⟩
  | 101 => ⟨S393216, .i32⟩
  | 102 => ⟨S393216, .i32⟩
  | 103 => ⟨S393216, .i32⟩
  | 104 => ⟨S393216x1, .i32⟩
  | 105 => ⟨S393216x128, .f32⟩
  | 106 => ⟨S393216x128, .f32⟩
  | 107 => ⟨S32768, .f32⟩
  | 108 => ⟨S_, .i32⟩
  | 109 => ⟨S393216, .i32⟩
  | 110 => ⟨S393216, .i1⟩
  | 111 => ⟨S_, .i32⟩
  | 112 => ⟨S393216, .i32⟩
  | 113 => ⟨S393216, .i32⟩
  | 114 => ⟨S393216, .i32⟩
  | 115 => ⟨S393216x1, .i32⟩
  | 116 => ⟨S393216, .f32⟩
  | 117 => ⟨S_, .i32⟩
  | 118 => ⟨S393216, .i32⟩
  | 119 => ⟨S393216, .i1⟩
  | 120 => ⟨S_, .i32⟩
  | 121 => ⟨S393216, .i32⟩
  | 122 => ⟨S393216, .i32⟩
  | 123 => ⟨S393216, .i32⟩
  | 124 => ⟨S393216x1, .i32⟩
  | 125 => ⟨S393216, .f32⟩
  | 126 => ⟨S393216, .f32⟩
  | 127 => ⟨S393216, .f32⟩
  | _ => ⟨S32768x128, .f32⟩

abbrev hbmTy0_1 (i : Nat) : BufTy := match i % 128 with
  | 0 => ⟨S393216, .f32⟩
  | 1 => ⟨S_, .f32⟩
  | 2 => ⟨S393216, .f32⟩
  | 3 => ⟨S393216, .f32⟩
  | 4 => ⟨S_, .f32⟩
  | 5 => ⟨S393216, .f32⟩
  | 6 => ⟨S393216, .f32⟩
  | 7 => ⟨S_, .f32⟩
  | 8 => ⟨S32768x128, .f32⟩
  | 9 => ⟨S393216x1, .f32⟩
  | 10 => ⟨S393216x128, .f32⟩
  | 11 => ⟨S393216x128, .f32⟩
  | 12 => ⟨S_, .i32⟩
  | 13 => ⟨S393216, .i32⟩
  | 14 => ⟨S393216, .i1⟩
  | 15 => ⟨S_, .i32⟩
  | 16 => ⟨S393216, .i32⟩
  | 17 => ⟨S393216, .i32⟩
  | 18 => ⟨S393216, .i32⟩
  | 19 => ⟨S393216x1, .i32⟩
  | 20 => ⟨S32768x128, .f32⟩
  | 21 => ⟨S_, .f32⟩
  | 22 => ⟨S32768x128, .f32⟩
  | 23 => ⟨S32768x128, .f32⟩
  | 24 => ⟨S64x512x128, .f32⟩
  | 25 => ⟨S256x512, .f32⟩
  | 26 => ⟨S512, .f32⟩
  | 27 => ⟨S1x512, .f32⟩
  | 28 => ⟨S512x64x128, .f32⟩
  | 29 => ⟨S64x128, .f32⟩
  | 30 => ⟨S64x128, .f32⟩
  | 31 => ⟨S64x4x1, .i32⟩
  | 32 => ⟨S_, .i32⟩
  | 33 => ⟨S64x4x1, .i32⟩
  | 34 => ⟨S64x4x1, .i1⟩
  | 35 => ⟨S_, .i32⟩
  | 36 => ⟨S64x4x1, .i32⟩
  | 37 => ⟨S64x4x1, .i32⟩
  | 38 => ⟨S64x4x1, .i32⟩
  | 39 => ⟨S1, .i32⟩
  | 40 => ⟨S_, .i32⟩
  | 41 => ⟨S64x4x1, .i32⟩
  | 42 => ⟨S64x4x1, .i1⟩
  | 43 => ⟨S1x1x1, .i32⟩
  | 44 => ⟨S64x4x1, .i32⟩
  | 45 => ⟨S64x4x1, .i1⟩
  | 46 => ⟨S64x4x1, .i1⟩
  | 47 => ⟨S_, .i1⟩
  | 48 => ⟨S64x4, .i1⟩
  | 49 => ⟨S64x4x128, .f32⟩
  | 50 => ⟨S64x4x128, .i1⟩
  | 51 => ⟨S_, .f32⟩
  | 52 => ⟨S64x4x128, .f32⟩
  | 53 => ⟨S64x4x128, .f32⟩
  | 54 => ⟨S_, .f32⟩
  | 55 => ⟨S64x128, .f32⟩
  | 56 => ⟨S_, .f32⟩
  | 57 => ⟨S64x128, .f32⟩
  | 58 => ⟨S64x128, .f32⟩
  | 59 => ⟨S64x4x1, .i32⟩
  | 60 => ⟨S_, .i32⟩
  | 61 => ⟨S64x4x1, .i32⟩
  | 62 => ⟨S64x4x1, .i1⟩
  | 63 => ⟨S_, .i32⟩
  | 64 => ⟨S64x4x1, .i32⟩
  | 65 => ⟨S64x4x1, .i32⟩
  | 66 => ⟨S64x4x1, .i32⟩
  | 67 => ⟨S1, .i32⟩
  | 68 => ⟨S_, .i32⟩
  | 69 => ⟨S64x4x1, .i32⟩
  | 70 => ⟨S64x4x1, .i1⟩
  | 71 => ⟨S1x1x1, .i32⟩
  | 72 => ⟨S64x4x1, .i32⟩
  | 73 => ⟨S64x4x1, .i1⟩
  | 74 => ⟨S64x4x1, .i1⟩
  | 75 => ⟨S_, .i1⟩
  | 76 => ⟨S64x4, .i1⟩
  | 77 => ⟨S64x4x128, .f32⟩
  | 78 => ⟨S64x4x128, .i1⟩
  | 79 => ⟨S_, .f32⟩
  | 80 => ⟨S64x4x128, .f32⟩
  | 81 => ⟨S64x4x128, .f32⟩
  | 82 => ⟨S_, .f32⟩
  | 83 => ⟨S64x128, .f32⟩
  | 84 => ⟨S_, .f32⟩
  | 85 => ⟨S64x128, .f32⟩
  | 86 => ⟨S64x128, .f32⟩
  | 87 => ⟨S8192, .f32⟩
  | 88 => ⟨S8192, .f32⟩
  | 89 => ⟨S8192, .f32⟩
  | 90 => ⟨S8192, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | .local _ .vmem, ⟨0, _⟩ => ⟨S64x4, .i32⟩
  | .local _ .vmem, ⟨1, _⟩ => ⟨S64x4, .i32⟩
  | .local _ .vmem, ⟨2, _⟩ => ⟨S1x64x128, .f32⟩
  | .local _ .vmem, ⟨3, _⟩ => ⟨S1x64x128, .f32⟩
  | .local _ .vmem, ⟨4, _⟩ => ⟨S256x512, .f32⟩
  | .local _ .vmem, ⟨5, _⟩ => ⟨S1x512, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_9 : Ref sig .tc := ⟨.hbm, 75, rfl⟩
abbrev main_v46 : Ref sig .tc := ⟨.hbm, 76, rfl⟩
abbrev main_v47 : Ref sig .tc := ⟨.hbm, 77, rfl⟩
abbrev main_c_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call0_cst : Ref sig .tc := ⟨.hbm, 84, rfl⟩
abbrev main_call0_v0 : Ref sig .tc := ⟨.hbm, 85, rfl⟩
abbrev main_v53 : Ref sig .tc := ⟨.hbm, 86, rfl⟩
abbrev main_v54 : Ref sig .tc := ⟨.hbm, 87, rfl⟩
abbrev main_c_11 : Ref sig .tc := ⟨.hbm, 88, rfl⟩
abbrev main_v55 : Ref sig .tc := ⟨.hbm, 89, rfl⟩
abbrev main_v56 : Ref sig .tc := ⟨.hbm, 90, rfl⟩
abbrev main_c_12 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_13 : Ref sig .tc := ⟨.hbm, 97, rfl⟩
abbrev main_v62 : Ref sig .tc := ⟨.hbm, 98, rfl⟩
abbrev main_v63 : Ref sig .tc := ⟨.hbm, 99, rfl⟩
abbrev main_c_14 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_15 : Ref sig .tc := ⟨.hbm, 108, rfl⟩
abbrev main_v71 : Ref sig .tc := ⟨.hbm, 109, rfl⟩
abbrev main_v72 : Ref sig .tc := ⟨.hbm, 110, rfl⟩
abbrev main_c_16 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_17 : Ref sig .tc := ⟨.hbm, 117, rfl⟩
abbrev main_v78 : Ref sig .tc := ⟨.hbm, 118, rfl⟩
abbrev main_v79 : Ref sig .tc := ⟨.hbm, 119, rfl⟩
abbrev main_c_18 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_19 : Ref sig .tc := ⟨.hbm, 129, rfl⟩
abbrev main_v88 : Ref sig .tc := ⟨.hbm, 130, rfl⟩
abbrev main_v89 : Ref sig .tc := ⟨.hbm, 131, rfl⟩
abbrev main_cst_20 : Ref sig .tc := ⟨.hbm, 132, rfl⟩
abbrev main_v90 : Ref sig .tc := ⟨.hbm, 133, rfl⟩
abbrev main_v91 : Ref sig .tc := ⟨.hbm, 134, rfl⟩
abbrev main_cst_21 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_c_22 : Ref sig .tc := ⟨.hbm, 140, rfl⟩
abbrev main_v96 : Ref sig .tc := ⟨.hbm, 141, rfl⟩
abbrev main_v97 : Ref sig .tc := ⟨.hbm, 142, rfl⟩
abbrev main_c_23 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_call1_cst : Ref sig .tc := ⟨.hbm, 149, rfl⟩
abbrev main_call1_v0 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109_0 : Ref sig .tc := ⟨.hbm, 157, rfl⟩
abbrev main_v109_1 : Ref sig .tc := ⟨.hbm, 158, rfl⟩
abbrev main_v110 : Ref sig .tc := ⟨.hbm, 159, rfl⟩
abbrev main_call2_c : Ref sig .tc := ⟨.hbm, 160, rfl⟩
abbrev main_call2_v0 : Ref sig .tc := ⟨.hbm, 161, rfl⟩
abbrev main_call2_v1 : Ref sig .tc := ⟨.hbm, 162, rfl⟩
abbrev main_call2_c_0 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_c_1 : Ref sig .tc := ⟨.hbm, 167, rfl⟩
abbrev main_call2_c_2 : Ref sig .tc := ⟨.hbm, 168, rfl⟩
abbrev main_call2_v5 : Ref sig .tc := ⟨.hbm, 169, rfl⟩
abbrev main_call2_v6 : Ref sig .tc := ⟨.hbm, 170, rfl⟩
abbrev main_call2_v7 : Ref sig .tc := ⟨.hbm, 171, rfl⟩
abbrev main_call2_v8 : Ref sig .tc := ⟨.hbm, 172, rfl⟩
abbrev main_call2_v9 : Ref sig .tc := ⟨.hbm, 173, rfl⟩
abbrev main_call2_v10 : Ref sig .tc := ⟨.hbm, 174, rfl⟩
abbrev main_call2_c_3 : Ref sig .tc := ⟨.hbm, 175, rfl⟩
abbrev main_call2_v11 : Ref sig .tc := ⟨.hbm, 176, rfl⟩
abbrev main_call2_v12 : Ref sig .tc := ⟨.hbm, 177, rfl⟩
abbrev main_call2_v13 : Ref sig .tc := ⟨.hbm, 178, rfl⟩
abbrev main_call2_cst : Ref sig .tc := ⟨.hbm, 179, rfl⟩
abbrev main_call2_v14 : Ref sig .tc := ⟨.hbm, 180, rfl⟩
abbrev main_v111 : Ref sig .tc := ⟨.hbm, 181, rfl⟩
abbrev main_cst_24 : Ref sig .tc := ⟨.hbm, 182, rfl⟩
abbrev main_v112 : Ref sig .tc := ⟨.hbm, 183, rfl⟩
abbrev main_cst_25 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_call3_c : Ref sig .tc := ⟨.hbm, 188, rfl⟩
abbrev main_call3_v0 : Ref sig .tc := ⟨.hbm, 189, rfl⟩
abbrev main_call3_v1 : Ref sig .tc := ⟨.hbm, 190, rfl⟩
abbrev main_call3_c_0 : Ref sig .tc := ⟨.hbm, 191, rfl⟩
abbrev main_call3_v2 : Ref sig .tc := ⟨.hbm, 192, rfl⟩
abbrev main_call3_v3 : Ref sig .tc := ⟨.hbm, 193, rfl⟩
abbrev main_call3_v4 : Ref sig .tc := ⟨.hbm, 194, rfl⟩
abbrev main_call3_c_1 : Ref sig .tc := ⟨.hbm, 195, rfl⟩
abbrev main_call3_c_2 : Ref sig .tc := ⟨.hbm, 196, rfl⟩
abbrev main_call3_v5 : Ref sig .tc := ⟨.hbm, 197, rfl⟩
abbrev main_call3_v6 : Ref sig .tc := ⟨.hbm, 198, rfl⟩
abbrev main_call3_v7 : Ref sig .tc := ⟨.hbm, 199, rfl⟩
abbrev main_call3_v8 : Ref sig .tc := ⟨.hbm, 200, rfl⟩
abbrev main_call3_v9 : Ref sig .tc := ⟨.hbm, 201, rfl⟩
abbrev main_call3_v10 : Ref sig .tc := ⟨.hbm, 202, rfl⟩
abbrev main_call3_c_3 : Ref sig .tc := ⟨.hbm, 203, rfl⟩
abbrev main_call3_v11 : Ref sig .tc := ⟨.hbm, 204, rfl⟩
abbrev main_call3_v12 : Ref sig .tc := ⟨.hbm, 205, rfl⟩
abbrev main_call3_v13 : Ref sig .tc := ⟨.hbm, 206, rfl⟩
abbrev main_call3_cst : Ref sig .tc := ⟨.hbm, 207, rfl⟩
abbrev main_call3_v14 : Ref sig .tc := ⟨.hbm, 208, rfl⟩
abbrev main_v116 : Ref sig .tc := ⟨.hbm, 209, rfl⟩
abbrev main_cst_26 : Ref sig .tc := ⟨.hbm, 210, rfl⟩
abbrev main_v117 : Ref sig .tc := ⟨.hbm, 211, rfl⟩
abbrev main_cst_27 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S32768x128 : Shape := ⟨2, ![32768, 128]⟩
abbrev S64x512x128 : Shape := ⟨3, ![64, 512, 128]⟩
abbrev S128x128 : Shape := ⟨2, ![128, 128]⟩
abbrev S46x128 : Shape := ⟨2, ![46, 128]⟩
abbrev S128 : Shape := ⟨1, ![128]⟩
abbrev S46 : Shape := ⟨1, ![46]⟩
abbrev S128x512 : Shape := ⟨2, ![128, 512]⟩
abbrev S512 : Shape := ⟨1, ![512]⟩
abbrev S2x393216 : Shape := ⟨2, ![2, 393216]⟩
abbrev S393216 : Shape := ⟨1, ![393216]⟩
abbrev S64x4 : Shape := ⟨2, ![64, 4]⟩
abbrev S_ : Shape := ⟨0, ![]⟩
abbrev S64x128 : Shape := ⟨2, ![64, 128]⟩
abbrev S512x64x128 : Shape := ⟨3, ![512, 64, 128]⟩
abbrev S1x64x128 : Shape := ⟨3, ![1, 64, 128]⟩
abbrev S64x512 : Shape := ⟨2, ![64, 512]⟩
abbrev S1x512 : Shape := ⟨2, ![1, 512]⟩
abbrev S1x393216 : Shape := ⟨2, ![1, 393216]⟩
abbrev S393216x1 : Shape := ⟨2, ![393216, 1]⟩
abbrev S393216x128 : Shape := ⟨2, ![393216, 128]⟩
abbrev S32768 : Shape := ⟨1, ![32768]⟩
abbrev S64x4x1 : Shape := ⟨3, ![64, 4, 1]⟩
abbrev S1 : Shape := ⟨1, ![1]⟩
abbrev S1x1x1 : Shape := ⟨3, ![1, 1, 1]⟩
abbrev S64x4x128 : Shape := ⟨3, ![64, 4, 128]⟩
abbrev S8192 : Shape := ⟨1, ![8192]⟩

abbrev nBuf : Space → Nat
  | .hbm => 346
  | .vmem => 0
  | .smem => 0
  | _ => 0

abbrev hbmTy0_0 (i : Nat) : BufTy := match i % 128 with
  | 0 => ⟨S32768x128, .f32⟩
  | 1 => ⟨S64x512x128, .f32⟩
  | 2 => ⟨S128x128, .f32⟩
  | 3 => ⟨S46x128, .f32⟩
  | 4 => ⟨S128, .f32⟩
  | 5 => ⟨S46, .f32⟩
  | 6 => ⟨S128x128, .f32⟩
  | 7 => ⟨S46x128, .f32⟩
  | 8 => ⟨S128, .f32⟩
  | 9 => ⟨S46, .f32⟩
  | 10 => ⟨S128x512, .f32⟩
  | 11 => ⟨S128x512, .f32⟩
  | 12 => ⟨S512, .f32⟩
  | 13 => ⟨S512, .f32⟩
  | 14 => ⟨S2x393216, .i32⟩
  | 15 => ⟨S393216, .i32⟩
  | 16 => ⟨S64x4, .i32⟩
  | 17 => ⟨S64x4, .i32⟩
  | 18 => ⟨S_, .f32⟩
  | 19 => ⟨S64x128, .f32⟩
  | 20 => ⟨S_, .f32⟩
  | 21 => ⟨S64x128, .f32⟩
  | 22 => ⟨S512x64x128, .f32⟩
  | 23 => ⟨S_, .f32⟩
  | 24 => ⟨S512x64x128, .f32⟩
  | 25 => ⟨S_, .i32⟩
  | 26 => ⟨S512x64x128, .f32⟩
  | 27 => ⟨S128x512, .f32⟩
  | 28 => ⟨S128x512, .f32⟩
  | 29 => ⟨S512, .f32⟩
  | 30 => ⟨S512, .f32⟩
  | 31 => ⟨S_, .i32⟩
  | 32 => ⟨S64x128, .f32⟩
  | 33 => ⟨S64x128, .f32⟩
  | 34 => ⟨S512x64x128, .f32⟩
  | 35 => ⟨S_, .i32⟩
  | 36 => ⟨S_, .i1⟩
  | 37 => ⟨S_, .i32⟩
  | 38 => ⟨S_, .i32⟩
  | 39 => ⟨S1x64x128, .f32⟩
  | 40 => ⟨S64x128, .f32⟩
  | 41 => ⟨S64x512, .f32⟩
  | 42 => ⟨S64x512, .f32⟩
  | 43 => ⟨S64x512, .f32⟩
  | 44 => ⟨S1x512, .f32⟩
  | 45 => ⟨S64x512, .f32⟩
  | 46 => ⟨S64x512, .f32⟩
  | 47 => ⟨S1x512, .f32⟩
  | 48 => ⟨S64x512, .f32⟩
  | 49 => ⟨S64x512, .f32⟩
  | 50 => ⟨S64x128, .f32⟩
  | 51 => ⟨S64x128, .f32⟩
  | 52 => ⟨S64x128, .f32⟩
  | 53 => ⟨S64x128, .f32⟩
  | 54 => ⟨S64x128, .f32⟩
  | 55 => ⟨S64x128, .f32⟩
  | 56 => ⟨S_, .f32⟩
  | 57 => ⟨S64x128, .f32⟩
  | 58 => ⟨S64x128, .f32⟩
  | 59 => ⟨S_, .f32⟩
  | 60 => ⟨S64x128, .f32⟩
  | 61 => ⟨S64x128, .f32⟩
  | 62 => ⟨S64x128, .f32⟩
  | 63 => ⟨S64x128, .f32⟩
  | 64 => ⟨S64x128, .f32⟩
  | 65 => ⟨S_, .f32⟩
  | 66 => ⟨S64x128, .f32⟩
  | 67 => ⟨S64x128, .f32⟩
  | 68 => ⟨S_, .f32⟩
  | 69 => ⟨S64x128, .f32⟩
  | 70 => ⟨S64x128, .f32⟩
  | 71 => ⟨S64x128, .f32⟩
  | 72 => ⟨S64x128, .f32⟩
  | 73 => ⟨S64x128, .f32⟩
  | 74 => ⟨S64x128, .f32⟩
  | 75 => ⟨S64x128, .f32⟩
  | 76 => ⟨S_, .f32⟩
  | 77 => ⟨S64x128, .f32⟩
  | 78 => ⟨S64x128, .f32⟩
  | 79 => ⟨S_, .f32⟩
  | 80 => ⟨S64x128, .f32⟩
  | 81 => ⟨S64x128, .f32⟩
  | 82 => ⟨S64x128, .f32⟩
  | 83 => ⟨S64x128, .f32⟩
  | 84 => ⟨S1x64x128, .f32⟩
  | 85 => ⟨S_, .i32⟩
  | 86 => ⟨S_, .i32⟩
  | 87 => ⟨S512x64x128, .f32⟩
  | 88 => ⟨S_, .i32⟩
  | 89 => ⟨S_, .i32⟩
  | 90 => ⟨S64x512x128, .f32⟩
  | 91 => ⟨S1x393216, .i32⟩
  | 92 => ⟨S393216, .i32⟩
  | 93 => ⟨S1x393216, .i32⟩
  | 94 => ⟨S393216, .i32⟩
  | 95 => ⟨S32768x128, .f32⟩
  | 96 => ⟨S_, .i32⟩
  | 97 => ⟨S393216, .i32⟩
  | 98 => ⟨S393216, .i1⟩
  | 99 => ⟨S_, .i32⟩
  | 100 => ⟨S393216, .i32⟩
  | 101 => ⟨S393216, .i32⟩
  | 102 => ⟨S393216, .i32⟩
  | 103 => ⟨S393216x1, .i32⟩
  | 104 => ⟨S393216x128, .f32⟩
  | 105 => ⟨S_, .i32⟩
  | 106 => ⟨S393216, .i32⟩
  | 107 => ⟨S393216, .i1⟩
  | 108 => ⟨S_, .i32⟩
  | 109 => ⟨S393216, .i32⟩
  | 110 => ⟨S393216, .i32⟩
  | 111 => ⟨S393216, .i32⟩
  | 112 => ⟨S393216x1, .i32⟩
  | 113 => ⟨S393216x128, .f32⟩
  | 114 => ⟨S393216x128, .f32⟩
  | 115 => ⟨S32768, .f32⟩
  | 116 => ⟨S_, .i32⟩
  | 117 => ⟨S393216, .i32⟩
  | 118 => ⟨S393216, .i1⟩
  | 119 => ⟨S_, .i32⟩
  | 120 => ⟨S393216, .i32⟩
  | 121 => ⟨S393216, .i32⟩
  | 122 => ⟨S393216, .i32⟩
  | 123 => ⟨S393216x1, .i32⟩
  | 124 => ⟨S393216, .f32⟩
  | 125 => ⟨S_, .i32⟩
  | 126 => ⟨S393216, .i32⟩
  | 127 => ⟨S393216, .i1⟩
  | _ => ⟨S32768x128, .f32⟩

abbrev hbmTy0_1 (i : Nat) : BufTy := match i % 128 with
  | 0 => ⟨S_, .i32⟩
  | 1 => ⟨S393216, .i32⟩
  | 2 => ⟨S393216, .i32⟩
  | 3 => ⟨S393216, .i32⟩
  | 4 => ⟨S393216x1, .i32⟩
  | 5 => ⟨S393216, .f32⟩
  | 6 => ⟨S393216, .f32⟩
  | 7 => ⟨S393216, .f32⟩
  | 8 => ⟨S393216, .f32⟩
  | 9 => ⟨S_, .f32⟩
  | 10 => ⟨S393216, .f32⟩
  | 11 => ⟨S393216, .f32⟩
  | 12 => ⟨S_, .f32⟩
  | 13 => ⟨S393216, .f32⟩
  | 14 => ⟨S393216, .f32⟩
  | 15 => ⟨S_, .f32⟩
  | 16 => ⟨S32768x128, .f32⟩
  | 17 => ⟨S393216x1, .f32⟩
  | 18 => ⟨S393216x128, .f32⟩
  | 19 => ⟨S393216x128, .f32⟩
  | 20 => ⟨S_, .i32⟩
  | 21 => ⟨S393216, .i32⟩
  | 22 => ⟨S393216, .i1⟩
  | 23 => ⟨S_, .i32⟩
  | 24 => ⟨S393216, .i32⟩
  | 25 => ⟨S393216, .i32⟩
  | 26 => ⟨S393216, .i32⟩
  | 27 => ⟨S393216x1, .i32⟩
  | 28 => ⟨S32768x128, .f32⟩
  | 29 => ⟨S_, .f32⟩
  | 30 => ⟨S32768x128, .f32⟩
  | 31 => ⟨S32768x128, .f32⟩
  | 32 => ⟨S1x393216, .i32⟩
  | 33 => ⟨S393216, .i32⟩
  | 34 => ⟨S1x393216, .i32⟩
  | 35 => ⟨S393216, .i32⟩
  | 36 => ⟨S32768x128, .f32⟩
  | 37 => ⟨S_, .i32⟩
  | 38 => ⟨S393216, .i32⟩
  | 39 => ⟨S393216, .i1⟩
  | 40 => ⟨S_, .i32⟩
  | 41 => ⟨S393216, .i32⟩
  | 42 => ⟨S393216, .i32⟩
  | 43 => ⟨S393216, .i32⟩
  | 44 => ⟨S393216x1, .i32⟩
  | 45 => ⟨S393216x128, .f32⟩
  | 46 => ⟨S_, .i32⟩
  | 47 => ⟨S393216, .i32⟩
  | 48 => ⟨S393216, .i1⟩
  | 49 => ⟨S_, .i32⟩
  | 50 => ⟨S393216, .i32⟩
  | 51 => ⟨S393216, .i32⟩
  | 52 => ⟨S393216, .i32⟩
  | 53 => ⟨S393216x1, .i32⟩
  | 54 => ⟨S393216x128, .f32⟩
  | 55 => ⟨S393216x128, .f32⟩
  | 56 => ⟨S32768, .f32⟩
  | 57 => ⟨S_, .i32⟩
  | 58 => ⟨S393216, .i32⟩
  | 59 => ⟨S393216, .i1⟩
  | 60 => ⟨S_, .i32⟩
  | 61 => ⟨S393216, .i32⟩
  | 62 => ⟨S393216, .i32⟩
  | 63 => ⟨S393216, .i32⟩
  | 64 => ⟨S393216x1, .i32⟩
  | 65 => ⟨S393216, .f32⟩
  | 66 => ⟨S_, .i32⟩
  | 67 => ⟨S393216, .i32⟩
  | 68 => ⟨S393216, .i1⟩
  | 69 => ⟨S_, .i32⟩
  | 70 => ⟨S393216, .i32⟩
  | 71 => ⟨S393216, .i32⟩
  | 72 => ⟨S393216, .i32⟩
  | 73 => ⟨S393216x1, .i32⟩
  | 74 => ⟨S393216, .f32⟩
  | 75 => ⟨S393216, .f32⟩
  | 76 => ⟨S393216, .f32⟩
  | 77 => ⟨S393216, .f32⟩
  | 78 => ⟨S_, .f32⟩
  | 79 => ⟨S393216, .f32⟩
  | 80 => ⟨S393216, .f32⟩
  | 81 => ⟨S_, .f32⟩
  | 82 => ⟨S393216, .f32⟩
  | 83 => ⟨S393216, .f32⟩
  | 84 => ⟨S_, .f32⟩
  | 85 => ⟨S32768x128, .f32⟩
  | 86 => ⟨S393216x1, .f32⟩
  | 87 => ⟨S393216x128, .f32⟩
  | 88 => ⟨S393216x128, .f32⟩
  | 89 => ⟨S_, .i32⟩
  | 90 => ⟨S393216, .i32⟩
  | 91 => ⟨S393216, .i1⟩
  | 92 => ⟨S_, .i32⟩
  | 93 => ⟨S393216, .i32⟩
  | 94 => ⟨S393216, .i32⟩
  | 95 => ⟨S393216, .i32⟩
  | 96 => ⟨S393216x1, .i32⟩
  | 97 => ⟨S32768x128, .f32⟩
  | 98 => ⟨S_, .f32⟩
  | 99 => ⟨S32768x128, .f32⟩
  | 100 => ⟨S32768x128, .f32⟩
  | 101 => ⟨S64x512x128, .f32⟩
  | 102 => ⟨S64x4x1, .i32⟩
  | 103 => ⟨S_, .i32⟩
  | 104 => ⟨S64x4x1, .i32⟩
  | 105 => ⟨S64x4x1, .i1⟩
  | 106 => ⟨S_, .i32⟩
  | 107 => ⟨S64x4x1, .i32⟩
  | 108 => ⟨S64x4x1, .i32⟩
  | 109 => ⟨S64x4x1, .i32⟩
  | 110 => ⟨S1, .i32⟩
  | 111 => ⟨S_, .i32⟩
  | 112 => ⟨S64x4x1, .i32⟩
  | 113 => ⟨S64x4x1, .i1⟩
  | 114 => ⟨S1x1x1, .i32⟩
  | 115 => ⟨S64x4x1, .i32⟩
  | 116 => ⟨S64x4x1, .i1⟩
  | 117 => ⟨S64x4x1, .i1⟩
  | 118 => ⟨S_, .i1⟩
  | 119 => ⟨S64x4, .i1⟩
  | 120 => ⟨S64x4x128, .f32⟩
  | 121 => ⟨S64x4x128, .i1⟩
  | 122 => ⟨S_, .f32⟩
  | 123 => ⟨S64x4x128, .f32⟩
  | 124 => ⟨S64x4x128, .f32⟩
  | 125 => ⟨S_, .f32⟩
  | 126 => ⟨S64x128, .f32⟩
  | 127 => ⟨S_, .f32⟩
  | _ => ⟨S32768x128, .f32⟩

abbrev hbmTy0_2 (i : Nat) : BufTy := match i % 128 with
  | 0 => ⟨S64x128, .f32⟩
  | 1 => ⟨S64x128, .f32⟩
  | 2 => ⟨S64x4x1, .i32⟩
  | 3 => ⟨S_, .i32⟩
  | 4 => ⟨S64x4x1, .i32⟩
  | 5 => ⟨S64x4x1, .i1⟩
  | 6 => ⟨S_, .i32⟩
  | 7 => ⟨S64x4x1, .i32⟩
  | 8 => ⟨S64x4x1, .i32⟩
  | 9 => ⟨S64x4x1, .i32⟩
  | 10 => ⟨S1, .i32⟩
  | 11 => ⟨S_, .i32⟩
  | 12 => ⟨S64x4x1, .i32⟩
  | 13 => ⟨S64x4x1, .i1⟩
  | 14 => ⟨S1x1x1, .i32⟩
  | 15 => ⟨S64x4x1, .i32⟩
  | 16 => ⟨S64x4x1, .i1⟩
  | 17 => ⟨S64x4x1, .i1⟩
  | 18 => ⟨S_, .i1⟩
  | 19 => ⟨S64x4, .i1⟩
  | 20 => ⟨S64x4x128, .f32⟩
  | 21 => ⟨S64x4x128, .i1⟩
  | 22 => ⟨S_, .f32⟩
  | 23 => ⟨S64x4x128, .f32⟩
  | 24 => ⟨S64x4x128, .f32⟩
  | 25 => ⟨S_, .f32⟩
  | 26 => ⟨S64x128, .f32⟩
  | 27 => ⟨S_, .f32⟩
  | 28 => ⟨S64x128, .f32⟩
  | 29 => ⟨S64x128, .f32⟩
  | 30 => ⟨S64x4x1, .i32⟩
  | 31 => ⟨S_, .i32⟩
  | 32 => ⟨S64x4x1, .i32⟩
  | 33 => ⟨S64x4x1, .i1⟩
  | 34 => ⟨S_, .i32⟩
  | 35 => ⟨S64x4x1, .i32⟩
  | 36 => ⟨S64x4x1, .i32⟩
  | 37 => ⟨S64x4x1, .i32⟩
  | 38 => ⟨S1, .i32⟩
  | 39 => ⟨S_, .i32⟩
  | 40 => ⟨S64x4x1, .i32⟩
  | 41 => ⟨S64x4x1, .i1⟩
  | 42 => ⟨S1x1x1, .i32⟩
  | 43 => ⟨S64x4x1, .i32⟩
  | 44 => ⟨S64x4x1, .i1⟩
  | 45 => ⟨S64x4x1, .i1⟩
  | 46 => ⟨S_, .i1⟩
  | 47 => ⟨S64x4, .i1⟩
  | 48 => ⟨S64x4x128, .f32⟩
  | 49 => ⟨S64x4x128, .i1⟩
  | 50 => ⟨S_, .f32⟩
  | 51 => ⟨S64x4x128, .f32⟩
  | 52 => ⟨S64x4x128, .f32⟩
  | 53 => ⟨S_, .f32⟩
  | 54 => ⟨S64x128, .f32⟩
  | 55 => ⟨S_, .f32⟩
  | 56 => ⟨S64x128, .f32⟩
  | 57 => ⟨S64x128, .f32⟩
  | 58 => ⟨S64x4x1, .i32⟩
  | 59 => ⟨S_, .i32⟩
  | 60 => ⟨S64x4x1, .i32⟩
  | 61 => ⟨S64x4x1, .i1⟩
  | 62 => ⟨S_, .i32⟩
  | 63 => ⟨S64x4x1, .i32⟩
  | 64 => ⟨S64x4x1, .i32⟩
  | 65 => ⟨S64x4x1, .i32⟩
  | 66 => ⟨S1, .i32⟩
  | 67 => ⟨S_, .i32⟩
  | 68 => ⟨S64x4x1, .i32⟩
  | 69 => ⟨S64x4x1, .i1⟩
  | 70 => ⟨S1x1x1, .i32⟩
  | 71 => ⟨S64x4x1, .i32⟩
  | 72 => ⟨S64x4x1, .i1⟩
  | 73 => ⟨S64x4x1, .i1⟩
  | 74 => ⟨S_, .i1⟩
  | 75 => ⟨S64x4, .i1⟩
  | 76 => ⟨S64x4x128, .f32⟩
  | 77 => ⟨S64x4x128, .i1⟩
  | 78 => ⟨S_, .f32⟩
  | 79 => ⟨S64x4x128, .f32⟩
  | 80 => ⟨S64x4x128, .f32⟩
  | 81 => ⟨S_, .f32⟩
  | 82 => ⟨S64x128, .f32⟩
  | 83 => ⟨S_, .f32⟩
  | 84 => ⟨S64x128, .f32⟩
  | 85 => ⟨S64x128, .f32⟩
  | 86 => ⟨S8192, .f32⟩
  | 87 => ⟨S8192, .f32⟩
  | 88 => ⟨S8192, .f32⟩
  | 89 => ⟨S8192, .f32⟩
  | _ => ⟨S32768x128, .f32⟩

abbrev hbmTy (i : Nat) : BufTy := match i / 128 with
  | 0 => hbmTy0_0 i
  | 1 => hbmTy0_1 i
  | 2 => hbmTy0_2 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_cst_1 : Ref sig .tc := ⟨.hbm, 23, rfl⟩
abbrev main_v3 : Ref sig .tc := ⟨.hbm, 24, rfl⟩
abbrev main_c : Ref sig .tc := ⟨.hbm, 25, rfl⟩
abbrev main_v4_0 : Ref sig .tc := ⟨.hbm, 26, rfl⟩
abbrev main_v4_1 : Ref sig .tc := ⟨.hbm, 27, rfl⟩
abbrev main_v4_2 : Ref sig .tc := ⟨.hbm, 28, rfl⟩
abbrev main_v4_3 : Ref sig .tc := ⟨.hbm, 29, rfl⟩
abbrev main_v4_4 : Ref sig .tc := ⟨.hbm, 30, rfl⟩
abbrev main_v4_5 : Ref sig .tc := ⟨.hbm, 31, rfl⟩
abbrev main_v4_6 : Ref sig .tc := ⟨.hbm, 32, rfl⟩
abbrev main_v4_7 : Ref sig .tc := ⟨.hbm, 33, rfl⟩
abbrev main_v4_8 : Ref sig .tc := ⟨.hbm, 34, rfl⟩
abbrev main_while0c_c_44 : Ref sig .tc := ⟨.hbm, 35, rfl⟩
abbrev main_while0c_v139 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_v0 : Ref sig .tc := ⟨.hbm, 39, rfl⟩
abbrev main_while0b_v139 : Ref sig .tc := ⟨.hbm, 40, rfl⟩
abbrev main_while0b_v140 : Ref sig .tc := ⟨.hbm, 41, rfl⟩
abbrev main_while0b_v141 : Ref sig .tc := ⟨.hbm, 42, rfl⟩
abbrev main_while0b_v142 : Ref sig .tc := ⟨.hbm, 43, rfl⟩
abbrev main_while0b_v143 : Ref sig .tc := ⟨.hbm, 44, rfl⟩
abbrev main_while0b_v144 : Ref sig .tc := ⟨.hbm, 45, rfl⟩
abbrev main_while0b_v145 : Ref sig .tc := ⟨.hbm, 46, rfl⟩
abbrev main_while0b_v146 : Ref sig .tc := ⟨.hbm, 47, rfl⟩
abbrev main_while0b_v147 : Ref sig .tc := ⟨.hbm, 48, rfl⟩
abbrev main_while0b_v148 : Ref sig .tc := ⟨.hbm, 49, rfl⟩
abbrev main_while0b_v149 : Ref sig .tc := ⟨.hbm, 50, rfl⟩
abbrev main_while0b_v150 : Ref sig .tc := ⟨.hbm, 51, rfl⟩
abbrev main_while0b_v151 : Ref sig .tc := ⟨.hbm, 52, rfl⟩
abbrev main_while0b_v152 : Ref sig .tc := ⟨.hbm, 53, rfl⟩
abbrev main_while0b_v153 : Ref sig .tc := ⟨.hbm, 54, rfl⟩
abbrev main_while0b_v154 : Ref sig .tc := ⟨.hbm, 55, rfl⟩
abbrev main_while0b_cst_44 : Ref sig .tc := ⟨.hbm, 56, rfl⟩
abbrev main_while0b_v155 : Ref sig .tc := ⟨.hbm, 57, rfl⟩
abbrev main_while0b_v156 : Ref sig .tc := ⟨.hbm, 58, rfl⟩
abbrev main_while0b_cst_45 : Ref sig .tc := ⟨.hbm, 59, rfl⟩
abbrev main_while0b_v157 : Ref sig .tc := ⟨.hbm, 60, rfl⟩
abbrev main_while0b_v158 : Ref sig .tc := ⟨.hbm, 61, rfl⟩
abbrev main_while0b_v159 : Ref sig .tc := ⟨.hbm, 62, rfl⟩
abbrev main_while0b_v160 : Ref sig .tc := ⟨.hbm, 63, rfl⟩
abbrev main_while0b_v161 : Ref sig .tc := ⟨.hbm, 64, rfl⟩
abbrev main_while0b_cst_46 : Ref sig .tc := ⟨.hbm, 65, rfl⟩
abbrev main_while0b_v162 : Ref sig .tc := ⟨.hbm, 66, rfl⟩
abbrev main_while0b_v163 : Ref sig .tc := ⟨.hbm, 67, rfl⟩
abbrev main_while0b_cst_47 : Ref sig .tc := ⟨.hbm, 68, rfl⟩
abbrev main_while0b_v164 : Ref sig .tc := ⟨.hbm, 69, rfl⟩
abbrev main_while0b_v165 : Ref sig .tc := ⟨.hbm, 70, rfl⟩
abbrev main_while0b_v166 : Ref sig .tc := ⟨.hbm, 71, rfl⟩
abbrev main_while0b_v167 : Ref sig .tc := ⟨.hbm, 72, rfl⟩
abbrev main_while0b_v168 : Ref sig .tc := ⟨.hbm, 73, rfl⟩
abbrev main_while0b_v169 : Ref sig .tc := ⟨.hbm, 74, rfl⟩
abbrev main_while0b_v170 : Ref sig .tc := ⟨.hbm, 75, rfl⟩
abbrev main_while0b_cst_48 : Ref sig .tc := ⟨.hbm, 76, rfl⟩
abbrev main_while0b_v171 : Ref sig .tc := ⟨.hbm, 77, rfl⟩
abbrev main_while0b_v172 : Ref sig .tc := ⟨.hbm, 78, rfl⟩
abbrev main_while0b_cst_49 : Ref sig .tc := ⟨.hbm, 79, rfl⟩
abbrev main_while0b_v173 : Ref sig .tc := ⟨.hbm, 80, rfl⟩
abbrev main_while0b_v174 : Ref sig .tc := ⟨.hbm, 81, rfl⟩
abbrev main_while0b_v175 : Ref sig .tc := ⟨.hbm, 82, rfl⟩
abbrev main_while0b_v176 : Ref sig .tc := ⟨.hbm, 83, rfl⟩
abbrev main_while0b_call1_v0 : Ref sig .tc := ⟨.hbm, 84, rfl⟩
abbrev main_while0b_call1_c : Ref sig .tc := ⟨.hbm, 85, rfl⟩
abbrev main_while0b_call1_c_0 : Ref sig .tc := ⟨.hbm, 86, rfl⟩
abbrev main_while0b_v177 : Ref sig .tc := ⟨.hbm, 87, rfl⟩
abbrev main_while0b_c_50 : Ref sig .tc := ⟨.hbm, 88, rfl⟩
abbrev main_while0b_v178 : Ref sig .tc := ⟨.hbm, 89, rfl⟩
abbrev main_v5 : Ref sig .tc := ⟨.hbm, 90, rfl⟩
abbrev main_v6 : Ref sig .tc := ⟨.hbm, 91, rfl⟩
abbrev main_v7 : Ref sig .tc := ⟨.hbm, 92, rfl⟩
abbrev main_v8 : Ref sig .tc := ⟨.hbm, 93, rfl⟩
abbrev main_v9 : Ref sig .tc := ⟨.hbm, 94, rfl⟩
abbrev main_v10 : Ref sig .tc := ⟨.hbm, 95, rfl⟩
abbrev main_c_2 : Ref sig .tc := ⟨.hbm, 96, rfl⟩
abbrev main_v11 : Ref sig .tc := ⟨.hbm, 97, rfl⟩
abbrev main_v12 : Ref sig .tc := ⟨.hbm, 98, rfl⟩
abbrev main_c_3 : Ref sig .tc := ⟨.hbm, 99, rfl⟩
abbrev main_v13 : Ref sig .tc := ⟨.hbm, 100, rfl⟩
abbrev main_v14 : Ref sig .tc := ⟨.hbm, 101, rfl⟩
abbrev main_v15 : Ref sig .tc := ⟨.hbm, 102, rfl⟩
abbrev main_v16 : Ref sig .tc := ⟨.hbm, 103, rfl⟩
abbrev main_v17 : Ref sig .tc := ⟨.hbm, 104, rfl⟩
abbrev main_c_4 : Ref sig .tc := ⟨.hbm, 105, rfl⟩
abbrev main_v18 : Ref sig .tc := ⟨.hbm, 106, rfl⟩
abbrev main_v19 : Ref sig .tc := ⟨.hbm, 107, rfl⟩
abbrev main_c_5 : Ref sig .tc := ⟨.hbm, 108, rfl⟩
abbrev main_v20 : Ref sig .tc := ⟨.hbm, 109, rfl⟩
abbrev main_v21 : Ref sig .tc := ⟨.hbm, 110, rfl⟩
abbrev main_v22 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_c_6 : Ref sig .tc := ⟨.hbm, 116, rfl⟩
abbrev main_v27 : Ref sig .tc := ⟨.hbm, 117, rfl⟩
abbrev main_v28 : Ref sig .tc := ⟨.hbm, 118, rfl⟩
abbrev main_c_7 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev main_c_8 : Ref sig .tc := ⟨.hbm, 125, rfl⟩
abbrev main_v34 : Ref sig .tc := ⟨.hbm, 126, rfl⟩
abbrev main_v35 : Ref sig .tc := ⟨.hbm, 127, rfl⟩
abbrev main_c_9 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_cst_10 : Ref sig .tc := ⟨.hbm, 137, rfl⟩
abbrev main_v44 : Ref sig .tc := ⟨.hbm, 138, rfl⟩
abbrev main_v45 : Ref sig .tc := ⟨.hbm, 139, rfl⟩
abbrev main_cst_11 : Ref sig .tc := ⟨.hbm, 140, rfl⟩
abbrev main_v46 : Ref sig .tc := ⟨.hbm, 141, rfl⟩
abbrev main_v47 : Ref sig .tc := ⟨.hbm, 142, rfl⟩
abbrev main_cst_12 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩
abbrev main_v51 : Ref sig .tc := ⟨.hbm, 147, rfl⟩
abbrev main_c_13 : Ref sig .tc := ⟨.hbm, 148, rfl⟩
abbrev main_v52 : Ref sig .tc := ⟨.hbm, 149, rfl⟩
abbrev main_v53 : Ref sig .tc := ⟨.hbm, 150, rfl⟩
abbrev main_c_14 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_call2_cst : Ref sig .tc := ⟨.hbm, 157, rfl⟩
abbrev main_call2_v0 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_v64 : Ref sig .tc := ⟨.hbm, 164, rfl⟩
abbrev main_c_15 : Ref sig .tc := ⟨.hbm, 165, rfl⟩
abbrev main_v65 : Ref sig .tc := ⟨.hbm, 166, rfl⟩
abbrev main_v66 : Ref sig .tc := ⟨.hbm, 167, rfl⟩
abbrev main_c_16 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_c_17 : Ref sig .tc := ⟨.hbm, 174, rfl⟩
abbrev main_v72 : Ref sig .tc := ⟨.hbm, 175, rfl⟩
abbrev main_v73 : Ref sig .tc := ⟨.hbm, 176, rfl⟩
abbrev main_c_18 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_c_19 : Ref sig .tc := ⟨.hbm, 185, rfl⟩
abbrev main_v81 : Ref sig .tc := ⟨.hbm, 186, rfl⟩
abbrev main_v82 : Ref sig .tc := ⟨.hbm, 187, rfl⟩
abbrev main_c_20 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_c_21 : Ref sig .tc := ⟨.hbm, 194, rfl⟩
abbrev main_v88 : Ref sig .tc := ⟨.hbm, 195, rfl⟩
abbrev main_v89 : Ref sig .tc := ⟨.hbm, 196, rfl⟩
abbrev main_c_22 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_cst_23 : Ref sig .tc := ⟨.hbm, 206, rfl⟩
abbrev main_v98 : Ref sig .tc := ⟨.hbm, 207, rfl⟩
abbrev main_v99 : Ref sig .tc := ⟨.hbm, 208, rfl⟩
abbrev main_cst_24 : Ref sig .tc := ⟨.hbm, 209, rfl⟩
abbrev main_v100 : Ref sig .tc := ⟨.hbm, 210, rfl⟩
abbrev main_v101 : Ref sig .tc := ⟨.hbm, 211, rfl⟩
abbrev main_cst_25 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_c_26 : Ref sig .tc := ⟨.hbm, 217, rfl⟩
abbrev main_v106 : Ref sig .tc := ⟨.hbm, 218, rfl⟩
abbrev main_v107 : Ref sig .tc := ⟨.hbm, 219, rfl⟩
abbrev main_c_27 : Ref sig .tc := ⟨.hbm, 220, rfl⟩
abbrev main_v108 : Ref sig .tc := ⟨.hbm, 221, rfl⟩
abbrev main_v109 : Ref sig .tc := ⟨.hbm, 222, rfl⟩
abbrev main_v110 : Ref sig .tc := ⟨.hbm, 223, rfl⟩
abbrev main_v111 : Ref sig .tc := ⟨.hbm, 224, rfl⟩
abbrev main_v112 : Ref sig .tc := ⟨.hbm, 225, rfl⟩
abbrev main_call3_cst : Ref sig .tc := ⟨.hbm, 226, rfl⟩
abbrev main_call3_v0 : Ref sig .tc := ⟨.hbm, 227, rfl⟩
abbrev main_v113 : Ref sig .tc := ⟨.hbm, 228, rfl⟩
abbrev main_v114 : Ref sig .tc := ⟨.hbm, 229, rfl⟩
abbrev main_v115 : Ref sig .tc := ⟨.hbm, 230, rfl⟩
abbrev main_call4_c : Ref sig .tc := ⟨.hbm, 231, rfl⟩
abbrev main_call4_v0 : Ref sig .tc := ⟨.hbm, 232, rfl⟩
abbrev main_call4_v1 : Ref sig .tc := ⟨.hbm, 233, rfl⟩
abbrev main_call4_c_0 : Ref sig .tc := ⟨.hbm, 234, rfl⟩
abbrev main_call4_v2 : Ref sig .tc := ⟨.hbm, 235, rfl⟩
abbrev main_call4_v3 : Ref sig .tc := ⟨.hbm, 236, rfl⟩
abbrev main_call4_v4 : Ref sig .tc := ⟨.hbm, 237, rfl⟩
abbrev main_call4_c_1 : Ref sig .tc := ⟨.hbm, 238, rfl⟩
abbrev main_call4_c_2 : Ref sig .tc := ⟨.hbm, 239, rfl⟩
abbrev main_call4_v5 : Ref sig .tc := ⟨.hbm, 240, rfl⟩
abbrev main_call4_v6 : Ref sig .tc := ⟨.hbm, 241, rfl⟩
abbrev main_call4_v7 : Ref sig .tc := ⟨.hbm, 242, rfl⟩
abbrev main_call4_v8 : Ref sig .tc := ⟨.hbm, 243, rfl⟩
abbrev main_call4_v9 : Ref sig .tc := ⟨.hbm, 244, rfl⟩
abbrev main_call4_v10 : Ref sig .tc := ⟨.hbm, 245, rfl⟩
abbrev main_call4_c_3 : Ref sig .tc := ⟨.hbm, 246, rfl⟩
abbrev main_call4_v11 : Ref sig .tc := ⟨.hbm, 247, rfl⟩
abbrev main_call4_v12 : Ref sig .tc := ⟨.hbm, 248, rfl⟩
abbrev main_call4_v13 : Ref sig .tc := ⟨.hbm, 249, rfl⟩
abbrev main_call4_cst : Ref sig .tc := ⟨.hbm, 250, rfl⟩
abbrev main_call4_v14 : Ref sig .tc := ⟨.hbm, 251, rfl⟩
abbrev main_v116 : Ref sig .tc := ⟨.hbm, 252, rfl⟩
abbrev main_cst_28 : Ref sig .tc := ⟨.hbm, 253, rfl⟩
abbrev main_v117 : Ref sig .tc := ⟨.hbm, 254, rfl⟩
abbrev main_cst_29 : Ref sig .tc := ⟨.hbm, 255, rfl⟩
abbrev main_v118 : Ref sig .tc := ⟨.hbm, 256, rfl⟩
abbrev main_v119 : Ref sig .tc := ⟨.hbm, 257, rfl⟩
abbrev main_v120 : Ref sig .tc := ⟨.hbm, 258, rfl⟩
abbrev main_call5_c : Ref sig .tc := ⟨.hbm, 259, rfl⟩
abbrev main_call5_v0 : Ref sig .tc := ⟨.hbm, 260, rfl⟩
abbrev main_call5_v1 : Ref sig .tc := ⟨.hbm, 261, rfl⟩
abbrev main_call5_c_0 : Ref sig .tc := ⟨.hbm, 262, rfl⟩
abbrev main_call5_v2 : Ref sig .tc := ⟨.hbm, 263, rfl⟩
abbrev main_call5_v3 : Ref sig .tc := ⟨.hbm, 264, rfl⟩
abbrev main_call5_v4 : Ref sig .tc := ⟨.hbm, 265, rfl⟩
abbrev main_call5_c_1 : Ref sig .tc := ⟨.hbm, 266, rfl⟩
abbrev main_call5_c_2 : Ref sig .tc := ⟨.hbm, 267, rfl⟩
abbrev main_call5_v5 : Ref sig .tc := ⟨.hbm, 268, rfl⟩
abbrev main_call5_v6 : Ref sig .tc := ⟨.hbm, 269, rfl⟩
abbrev main_call5_v7 : Ref sig .tc := ⟨.hbm, 270, rfl⟩
abbrev main_call5_v8 : Ref sig .tc := ⟨.hbm, 271, rfl⟩
abbrev main_call5_v9 : Ref sig .tc := ⟨.hbm, 272, rfl⟩
abbrev main_call5_v10 : Ref sig .tc := ⟨.hbm, 273, rfl⟩
abbrev main_call5_c_3 : Ref sig .tc := ⟨.hbm, 274, rfl⟩
abbrev main_call5_v11 : Ref sig .tc := ⟨.hbm, 275, rfl⟩
abbrev main_call5_v12 : Ref sig .tc := ⟨.hbm, 276, rfl⟩
abbrev main_call5_v13 : Ref sig .tc := ⟨.hbm, 277, rfl⟩
abbrev main_call5_cst : Ref sig .tc := ⟨.hbm, 278, rfl⟩
abbrev main_call5_v14 : Ref sig .tc := ⟨.hbm, 279, rfl⟩
abbrev main_v121 : Ref sig .tc := ⟨.hbm, 280, rfl⟩
abbrev main_cst_30 : Ref sig .tc := ⟨.hbm, 281, rfl⟩
abbrev main_v122 : Ref sig .tc := ⟨.hbm, 282, rfl⟩
abbrev main_cst_31 : Ref sig .tc := ⟨.hbm, 283, rfl⟩
abbrev main_v123 : Ref sig .tc := ⟨.hbm, 284, rfl⟩
abbrev main_v124 : Ref sig .tc := ⟨.hbm, 285, rfl⟩
abbrev main_v125 : Ref sig .tc := ⟨.hbm, 286, rfl⟩
abbrev main_call6_c : Ref sig .tc := ⟨.hbm, 287, rfl⟩
abbrev main_call6_v0 : Ref sig .tc := ⟨.hbm, 288, rfl⟩
abbrev main_call6_v1 : Ref sig .tc := ⟨.hbm, 289, rfl⟩
abbrev main_call6_c_0 : Ref sig .tc := ⟨.hbm, 290, rfl⟩
abbrev main_call6_v2 : Ref sig .tc := ⟨.hbm, 291, rfl⟩
abbrev main_call6_v3 : Ref sig .tc := ⟨.hbm, 292, rfl⟩
abbrev main_call6_v4 : Ref sig .tc := ⟨.hbm, 293, rfl⟩
abbrev main_call6_c_1 : Ref sig .tc := ⟨.hbm, 294, rfl⟩
abbrev main_call6_c_2 : Ref sig .tc := ⟨.hbm, 295, rfl⟩
abbrev main_call6_v5 : Ref sig .tc := ⟨.hbm, 296, rfl⟩
abbrev main_call6_v6 : Ref sig .tc := ⟨.hbm, 297, rfl⟩
abbrev main_call6_v7 : Ref sig .tc := ⟨.hbm, 298, rfl⟩
abbrev main_call6_v8 : Ref sig .tc := ⟨.hbm, 299, rfl⟩
abbrev main_call6_v9 : Ref sig .tc := ⟨.hbm, 300, rfl⟩
abbrev main_call6_v10 : Ref sig .tc := ⟨.hbm, 301, rfl⟩
abbrev main_call6_c_3 : Ref sig .tc := ⟨.hbm, 302, rfl⟩
abbrev main_call6_v11 : Ref sig .tc := ⟨.hbm, 303, rfl⟩
abbrev main_call6_v12 : Ref sig .tc := ⟨.hbm, 304, rfl⟩
abbrev main_call6_v13 : Ref sig .tc := ⟨.hbm, 305, rfl⟩
abbrev main_call6_cst : Ref sig .tc := ⟨.hbm, 306, rfl⟩
abbrev main_call6_v14 : Ref sig .tc := ⟨.hbm, 307, rfl⟩
abbrev main_v126 : Ref sig .tc := ⟨.hbm, 308, rfl⟩
abbrev main_cst_32 : Ref sig .tc := ⟨.hbm, 309, rfl⟩
abbrev main_v127 : Ref sig .tc := ⟨.hbm, 310, rfl⟩
abbrev main_cst_33 : Ref sig .tc := ⟨.hbm, 311, rfl⟩
abbrev main_v128 : Ref sig .tc := ⟨.hbm, 312, rfl⟩
abbrev main_v129 : Ref sig .tc := ⟨.hbm, 313, rfl⟩
abbrev main_v130 : Ref sig .tc := ⟨.hbm, 314, rfl⟩
abbrev main_call7_c : Ref sig .tc := ⟨.hbm, 315, rfl⟩
abbrev main_call7_v0 : Ref sig .tc := ⟨.hbm, 316, rfl⟩
abbrev main_call7_v1 : Ref sig .tc := ⟨.hbm, 317, rfl⟩
abbrev main_call7_c_0 : Ref sig .tc := ⟨.hbm, 318, rfl⟩
abbrev main_call7_v2 : Ref sig .tc := ⟨.hbm, 319, rfl⟩
abbrev main_call7_v3 : Ref sig .tc := ⟨.hbm, 320, rfl⟩
abbrev main_call7_v4 : Ref sig .tc := ⟨.hbm, 321, rfl⟩
abbrev main_call7_c_1 : Ref sig .tc := ⟨.hbm, 322, rfl⟩
abbrev main_call7_c_2 : Ref sig .tc := ⟨.hbm, 323, rfl⟩
abbrev main_call7_v5 : Ref sig .tc := ⟨.hbm, 324, rfl⟩
abbrev main_call7_v6 : Ref sig .tc := ⟨.hbm, 325, rfl⟩
abbrev main_call7_v7 : Ref sig .tc := ⟨.hbm, 326, rfl⟩
abbrev main_call7_v8 : Ref sig .tc := ⟨.hbm, 327, rfl⟩
abbrev main_call7_v9 : Ref sig .tc := ⟨.hbm, 328, rfl⟩
abbrev main_call7_v10 : Ref sig .tc := ⟨.hbm, 329, rfl⟩
abbrev main_call7_c_3 : Ref sig .tc := ⟨.hbm, 330, rfl⟩
abbrev main_call7_v11 : Ref sig .tc := ⟨.hbm, 331, rfl⟩
abbrev main_call7_v12 : Ref sig .tc := ⟨.hbm, 332, rfl⟩
abbrev main_call7_v13 : Ref sig .tc := ⟨.hbm, 333, rfl⟩
abbrev main_call7_cst : Ref sig .tc := ⟨.hbm, 334, rfl⟩
abbrev main_call7_v14 : Ref sig .tc := ⟨.hbm, 335, rfl⟩
abbrev main_v131 : Ref sig .tc := ⟨.hbm, 336, rfl⟩
abbrev main_cst_34 : Ref sig .tc := ⟨.hbm, 337, rfl⟩
abbrev main_v132 : Ref sig .tc := ⟨.hbm, 338, rfl⟩
abbrev main_cst_35 : Ref sig .tc := ⟨.hbm, 339, rfl⟩
abbrev main_v133 : Ref sig .tc := ⟨.hbm, 340, rfl⟩
abbrev main_v134 : Ref sig .tc := ⟨.hbm, 341, rfl⟩
abbrev main_v135 : Ref sig .tc := ⟨.hbm, 342, rfl⟩
abbrev main_v136 : Ref sig .tc := ⟨.hbm, 343, rfl⟩
abbrev main_v137 : Ref sig .tc := ⟨.hbm, 344, rfl⟩
abbrev main_v138 : Ref sig .tc := ⟨.hbm, 345, rfl⟩

abbrev nD : Nat := 1
abbrev τ : Topo := Topo.v7x

variable {F : FTy → Type} [FloatOps F]

abbrev main_while0_count : Scf.Loop 32 := ⟨0#32, 512#32, 1#32⟩
-- ==== Proof.Frames.lean ====
/-
  The three frame claims: the kernel as printed, the kernel over extended reals and the reference over extended reals
  each terminate without a fault, leave every argument array unchanged and end with every semaphore at zero; and the
  three side conditions of the precondition's text.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

/-- The printed kernel runs to its end, its arguments unchanged and its semaphores at zero. -/
theorem frame_kernel : Cert.quiescent_Kernel (hKernel := Cert.Kernel.Gen.facts) :=
  fun m g _ => Cert.Kernel.Gen.frame (F := Bits) m g

/-- The kernel over extended reals runs to its end, its arguments unchanged and its semaphores at zero. -/
theorem frame_kernelIdeal : Cert.quiescent_KernelIdeal (hKernelIdeal := Cert.KernelIdeal.Gen.facts) :=
  fun m g _ => Cert.KernelIdeal.Gen.frame (F := Ideal) m g

/-- The reference over extended reals runs to its end, its arguments unchanged and its semaphores at zero. -/
theorem frame_reference : Cert.quiescent_ReferenceIdeal (hReferenceIdeal := Cert.ReferenceIdeal.Gen.facts) :=
  fun m g _ => (θ_run Cert.ReferenceIdeal.defs _ _).mono
    (fun r h => ⟨fun c => (h c).2.2.2.2, sem_eq_zero_of_no_sems (by decide) r.2⟩) (Cert.ReferenceIdeal.Value.run (F := Ideal) m g)

/-- The side conditions of the precondition's operations. -/
instance preFacts : Cert.Pre_pos_in_range.Facts where
  bcast_S_S64x4 := by decide
  reducesTo_S64x4_S_d0_1 := by decide
  h_S_ := by decide

end Cert.Proof

end
-- ==== Proof.KernelStep.lean ====
/-
  What one grid point of the idealized kernel's region leaves in its two output blocks and its two carried scratches,
  read off the generated frame's named terms: the first point (case A) starts from four zero blocks, every later point
  (case B) from what the point before left, and both apply the same four payloads.
-/
module

public import proofs.«01_k».proof.Proof.Gen.KernelIdeal.Frame
public import Idealize.ShloMosaic.Lib.Pipeline.Value

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)

variable {F : FTy → Type} [FloatOps F]

/-- The zero offset of two axes. -/
theorem hz2 : (![0, 0] : Fin 2 → Nat) = fun _ => 0 := funext fun a => by fin_cases a <;> rfl
/-- The zero offset of three axes. -/
theorem hz3 : (![0, 0, 0] : Fin 3 → Nat) = fun _ => 0 := funext fun a => by fin_cases a <;> rfl

section Cases

variable (c : Dev nD) (i : grid0.Coords)
  (a1 : Memref sig .tc .vmem S64x4 .i32) (h1 : a1.IsWhole) (a2 : Memref sig .tc .vmem S64x4 .i32) (h2 : a2.IsWhole)
  (a3 : Memref sig .tc .vmem S1x64x128 .f32) (h3 : a3.IsWhole) (a4 : Memref sig .tc .vmem S256x512 .f32) (h4 : a4.IsWhole)
  (a5 : Memref sig .tc .vmem S1x512 .f32) (h5 : a5.IsWhole) (a6 : Memref sig .tc .vmem S64x128 .f32) (h6 : a6.IsWhole)
  (a7 : Memref sig .tc .vmem S64x128 .f32) (h7 : a7.IsWhole) (a8 : Memref sig .tc .vmem S64x128 .f32) (h8 : a8.IsWhole)
  (a9 : Memref sig .tc .vmem S64x128 .f32) (h9 : a9.IsWhole)
  (x0 x1 : Vec F S64x4 .i32) (x2 : Vec F S1x64x128 .f32) (x3 : Vec F S256x512 .f32) (x4 : Vec F S1x512 .f32)
  (xo5 xo6 xs0 xs1 : Vec F S64x128 .f32)

/-- A later point leaves, in the hidden-state scratch, the new hidden state of the state it found. -/
theorem sout_B_0 (hc : ¬cond0_0 i) : sout0_B_0 c i a1 h1 a2 h2 a3 h3 a4 h4 a5 h5 a6 h6 a7 h7 a8 h8 a9 h9 hc x0 x1 x2 x3 x4 xo5 xo6 xs0 xs1
    = k0_pay9 x2 xs0 x3 x4 xs1 := by
  unfold sout0_B_0
  rw [View.read_writes_eq_canon _ _ _ (scover0_B_0 c i a1 h1 a2 h2 a3 h3 a4 h4 a5 h5 a6 h6 a7 h7 a8 h8 a9 h9 hc x0 x1 x2 x3 x4 xo5 xo6 xs0 xs1)]
  unfold kernelRun0_B
  dsimp only
  sl_unfold_words
  rw [View.canon_unit_zero hz2]
  unfold k0_pay10
  simp only [View.readAt_eq_ld, h3.read_unread, h8.read_unread, h4.read_unread, h5.read_unread, h9.read_unread,
    View.ld_unit_zero (S := S64x4) hz2, View.ld_unit_zero (S := S64x128) hz2, View.ld_unit_zero (S := S256x512) hz2,
    View.ld_unit_zero (S := S1x512) hz2, View.ld_unit_zero (S := S1x64x128) hz3, shapeCast_self]

/-- A later point leaves, in the cell-state scratch, the new cell state of the state it found. -/
theorem sout_B_1 (hc : ¬cond0_0 i) : sout0_B_1 c i a1 h1 a2 h2 a3 h3 a4 h4 a5 h5 a6 h6 a7 h7 a8 h8 a9 h9 hc x0 x1 x2 x3 x4 xo5 xo6 xs0 xs1
    = k0_pay8 x2 xs0 x3 x4 xs1 := by
  unfold sout0_B_1
  rw [View.read_writes_eq_canon _ _ _ (scover0_B_1 c i a1 h1 a2 h2 a3 h3 a4 h4 a5 h5 a6 h6 a7 h7 a8 h8 a9 h9 hc x0 x1 x2 x3 x4 xo5 xo6 xs0 xs1)]
  unfold kernelRun0_B
  dsimp only
  sl_unfold_words
  rw [View.canon_unit_zero hz2]
  unfold k0_pay11
  simp only [View.readAt_eq_ld, h3.read_unread, h8.read_unread, h4.read_unread, h5.read_unread, h9.read_unread,
    View.ld_unit_zero (S := S64x4) hz2, View.ld_unit_zero (S := S64x128) hz2, View.ld_unit_zero (S := S256x512) hz2,
    View.ld_unit_zero (S := S1x512) hz2, View.ld_unit_zero (S := S1x64x128) hz3, shapeCast_self]

/-- A later point adds its masked hidden state to the first pooled sum it found. -/
theorem out_B_5 (hc : ¬cond0_0 i) : out0_B_5 c i a1 h1 a2 h2 a3 h3 a4 h4 a5 h5 a6 h6 a7 h7 a8 h8 a9 h9 hc x0 x1 x2 x3 x4 xo5 xo6 xs0 xs1
    = k0_pay1 (k0_pay9 x2 xs0 x3 x4 xs1) x0 (k0_pay12 i) xo5 := by
  unfold out0_B_5
  rw [View.read_writes_eq_canon _ _ _ (cover0_B_5 c i a1 h1 a2 h2 a3 h3 a4 h4 a5 h5 a6 h6 a7 h7 a8 h8 a9 h9 hc x0 x1 x2 x3 x4 xo5 xo6 xs0 xs1)]
  unfold kernelRun0_B
  dsimp only
  sl_unfold_words
  rw [View.canon_unit_zero hz2]
  simp only [View.readAt_eq_ld, h1.read_unread, h3.read_unread, h8.read_unread, h4.read_unread, h5.read_unread, h6.read_unread, h9.read_unread,
    View.ld_unit_zero (S := S64x4) hz2, View.ld_unit_zero (S := S64x128) hz2, View.ld_unit_zero (S := S256x512) hz2,
    View.ld_unit_zero (S := S1x512) hz2, View.ld_unit_zero (S := S1x64x128) hz3]

/-- A later point adds its masked hidden state to the second pooled sum it found. -/
theorem out_B_6 (hc : ¬cond0_0 i) : out0_B_6 c i a1 h1 a2 h2 a3 h3 a4 h4 a5 h5 a6 h6 a7 h7 a8 h8 a9 h9 hc x0 x1 x2 x3 x4 xo5 xo6 xs0 xs1
    = k0_pay2 (BitVec.ofNat 32 (i 0).val) (k0_pay9 x2 xs0 x3 x4 xs1) x1 xo6 := by
  unfold out0_B_6
  rw [View.read_writes_eq_canon _ _ _ (cover0_B_6 c i a1 h1 a2 h2 a3 h3 a4 h4 a5 h5 a6 h6 a7 h7 a8 h8 a9 h9 hc x0 x1 x2 x3 x4 xo5 xo6 xs0 xs1)]
  unfold kernelRun0_B
  dsimp only
  sl_unfold_words
  rw [View.canon_unit_zero hz2]
  simp only [View.readAt_eq_ld, h2.read_unread, h3.read_unread, h8.read_unread, h4.read_unread, h5.read_unread, h7.read_unread, h9.read_unread,
    View.ld_unit_zero (S := S64x4) hz2, View.ld_unit_zero (S := S64x128) hz2, View.ld_unit_zero (S := S256x512) hz2,
    View.ld_unit_zero (S := S1x512) hz2, View.ld_unit_zero (S := S1x64x128) hz3]

/-- The first point leaves, in the hidden-state scratch, the new hidden state of the zero state. -/
theorem sout_A_0 (hc : cond0_0 i) : sout0_A_0 c i a1 h1 a2 h2 a3 h3 a4 h4 a5 h5 a6 h6 a7 h7 a8 h8 a9 h9 hc x0 x1 x2 x3 x4
    = k0_pay9 x2 k0_pay3 x3 x4 k0_pay4 := by
  unfold sout0_A_0
  rw [View.read_writes_eq_canon _ _ _ (scover0_A_0 c i a1 h1 a2 h2 a3 h3 a4 h4 a5 h5 a6 h6 a7 h7 a8 h8 a9 h9 hc x0 x1 x2 x3 x4)]
  unfold kernelRun0_A
  dsimp only
  sl_unfold_words
  rw [View.canon_cons_unit_zero hz2]
  unfold k0_pay10
  simp only [View.readCov_unit_zero (S := S64x128) _ hz2, View.readAt_eq_ld, h3.read_unread, h4.read_unread, h5.read_unread,
    View.ld_unit_zero (S := S64x4) hz2, View.ld_unit_zero (S := S64x128) hz2, View.ld_unit_zero (S := S256x512) hz2,
    View.ld_unit_zero (S := S1x512) hz2, View.ld_unit_zero (S := S1x64x128) hz3, shapeCast_self]

/-- The first point leaves, in the cell-state scratch, the new cell state of the zero state. -/
theorem sout_A_1 (hc : cond0_0 i) : sout0_A_1 c i a1 h1 a2 h2 a3 h3 a4 h4 a5 h5 a6 h6 a7 h7 a8 h8 a9 h9 hc x0 x1 x2 x3 x4
    = k0_pay8 x2 k0_pay3 x3 x4 k0_pay4 := by
  unfold sout0_A_1
  rw [View.read_writes_eq_canon _ _ _ (scover0_A_1 c i a1 h1 a2 h2 a3 h3 a4 h4 a5 h5 a6 h6 a7 h7 a8 h8 a9 h9 hc x0 x1 x2 x3 x4)]
  unfold kernelRun0_A
  dsimp only
  sl_unfold_words
  rw [View.canon_cons_unit_zero hz2]
  unfold k0_pay11
  simp only [View.readCov_unit_zero (S := S64x128) _ hz2, View.readAt_eq_ld, h3.read_unread, h4.read_unread, h5.read_unread,
    View.ld_unit_zero (S := S64x4) hz2, View.ld_unit_zero (S := S64x128) hz2, View.ld_unit_zero (S := S256x512) hz2,
    View.ld_unit_zero (S := S1x512) hz2, View.ld_unit_zero (S := S1x64x128) hz3, shapeCast_self]

/-- The first point adds its masked hidden state to a zero block, for the first pooled sum. -/
theorem out_A_5 (hc : cond0_0 i) : out0_A_5 c i a1 h1 a2 h2 a3 h3 a4 h4 a5 h5 a6 h6 a7 h7 a8 h8 a9 h9 hc x0 x1 x2 x3 x4
    = k0_pay1 (k0_pay9 x2 k0_pay3 x3 x4 k0_pay4) x0 (k0_pay12 i) k0_pay5 := by
  unfold out0_A_5
  rw [View.read_writes_eq_canon _ _ _ (cover0_A_5 c i a1 h1 a2 h2 a3 h3 a4 h4 a5 h5 a6 h6 a7 h7 a8 h8 a9 h9 hc x0 x1 x2 x3 x4)]
  unfold kernelRun0_A
  dsimp only
  sl_unfold_words
  rw [View.canon_cons_unit_zero hz2]
  simp only [View.readCov_unit_zero (S := S64x128) _ hz2, View.readAt_eq_ld, h1.read_unread, h3.read_unread, h4.read_unread, h5.read_unread,
    View.ld_unit_zero (S := S64x4) hz2, View.ld_unit_zero (S := S64x128) hz2, View.ld_unit_zero (S := S256x512) hz2,
    View.ld_unit_zero (S := S1x512) hz2, View.ld_unit_zero (S := S1x64x128) hz3]

/-- The first point adds its masked hidden state to a zero block, for the second pooled sum. -/
theorem out_A_6 (hc : cond0_0 i) : out0_A_6 c i a1 h1 a2 h2 a3 h3 a4 h4 a5 h5 a6 h6 a7 h7 a8 h8 a9 h9 hc x0 x1 x2 x3 x4
    = k0_pay2 (BitVec.ofNat 32 (i 0).val) (k0_pay9 x2 k0_pay3 x3 x4 k0_pay4) x1 k0_pay6 := by
  unfold out0_A_6
  rw [View.read_writes_eq_canon _ _ _ (cover0_A_6 c i a1 h1 a2 h2 a3 h3 a4 h4 a5 h5 a6 h6 a7 h7 a8 h8 a9 h9 hc x0 x1 x2 x3 x4)]
  unfold kernelRun0_A
  dsimp only
  sl_unfold_words
  rw [View.canon_cons_unit_zero hz2]
  simp only [View.readCov_unit_zero (S := S64x128) _ hz2, View.readAt_eq_ld, h2.read_unread, h3.read_unread, h4.read_unread, h5.read_unread,
    View.ld_unit_zero (S := S64x4) hz2, View.ld_unit_zero (S := S64x128) hz2, View.ld_unit_zero (S := S256x512) hz2,
    View.ld_unit_zero (S := S1x512) hz2, View.ld_unit_zero (S := S1x64x128) hz3]

end Cases

end Cert.KernelIdeal.Val

end
-- ==== Proof.Region.lean ====
/-
  The kernel region as a recursion on the time step: the hidden and cell states after `n` steps, the two pooled sums
  after `n` steps, and the two output arrays at the end of the region, which hold the pooled sums after all 512 steps.
-/
module

public import proofs.«01_k».proof.Proof.KernelStep
public import Idealize.ShloMosaic.Lib.Pointwise

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)

variable {F : FTy → Type} [FloatOps F]

/-! ## The recursion, over arrays -/

/-- The input block of step `n`: row `n` of the time-major embedding, kept as a one-row block. -/
def rowAt (E : Vec F S512x64x128 .f32) (n : ℕ) : Vec F S1x64x128 .f32 :=
  fun y => E (ix3 ⟨n % 512, Nat.mod_lt _ (by decide)⟩ (y 1) (y 2))

/-- The hidden state and the cell state after `n` steps, from zero states. -/
def hcAt (E : Vec F S512x64x128 .f32) (W : Vec F S256x512 .f32) (b : Vec F S1x512 .f32) :
    ℕ → Vec F S64x128 .f32 × Vec F S64x128 .f32
  | 0 => (k0_pay3, k0_pay4)
  | n + 1 => (k0_pay9 (rowAt E n) (hcAt E W b n).1 W b (hcAt E W b n).2, k0_pay8 (rowAt E n) (hcAt E W b n).1 W b (hcAt E W b n).2)

/-- The pooled sum of the hidden states at positions `pos` after `n` steps, from a zero block. -/
def poolAt (pos : Vec F S64x4 .i32) (E : Vec F S512x64x128 .f32) (W : Vec F S256x512 .f32) (b : Vec F S1x512 .f32) :
    ℕ → Vec F S64x128 .f32
  | 0 => k0_pay5
  | n + 1 => k0_pay1 (hcAt E W b (n + 1)).1 pos (broadcast S64x4 (BitVec.ofNat 32 n)) (poolAt pos E W b n)

variable (m : (ℓ : Loc nD τ sig) → Buf (Elt F) ℓ) (ρ : Dev nD → PrngReg)

/-! ## The input blocks -/

/-- The time-major embedding, the stacked weights and the summed bias as the region finds them. -/
abbrev arrE (c : Dev nD) : Vec F S512x64x128 .f32 := V m c main_v108
/-- The stacked weights as the region finds them. -/
abbrev arrW (c : Dev nD) : Vec F S256x512 .f32 := V m c main_v105
/-- The summed biases as the region finds them. -/
abbrev arrB (c : Dev nD) : Vec F S1x512 .f32 := V m c main_v107

/-- The grid has one axis, so a step's coordinate is its number. -/
theorem coord (t : Fin cfg0.N) : (grid0.coords t 0).val = t.val :=
  (by decide +kernel : ∀ t : Fin grid0.N, (grid0.coords t 0).val = t.val) t

/-- The embedding window's block at a step is the step's row. -/
theorem index2 : ∀ t : Fin cfg0.N, win0_2.index t 0 = t.val ∧ win0_2.index t 1 = 0 ∧ win0_2.index t 2 = 0 :=
  (by decide +kernel : ∀ t : Fin grid0.N, _)

/-- At point `t` window 2 reads row `t` of the embedding. -/
theorem iblk_2 (c : Dev nD) (t : Fin cfg0.N) : (iblk m c 2 t : Vec F S1x64x128 .f32) = rowAt (arrE m c) t.val := by
  have hN : cfg0.N = 512 := N_0
  have hi := index2 t
  have ht := t.isLt
  funext j
  have h0 : (j 0).val < 1 := (j 0).isLt
  unfold iblk rowAt
  rw [View.read_apply]
  show V m c main_v108 _ = V m c main_v108 _
  congr 1
  funext a
  apply Fin.ext
  match a with
  | ⟨0, _⟩ => show win0_2.index t 0 * 1 + 1 * (j 0).val = t.val % 512; rw [hi.1, Nat.mod_eq_of_lt (by omega)]; omega
  | ⟨1, _⟩ => show win0_2.index t 1 * 64 + 1 * (j 1).val = (j 1).val; rw [hi.2.1]; omega
  | ⟨2, _⟩ => show win0_2.index t 2 * 128 + 1 * (j 2).val = (j 2).val; rw [hi.2.2]; omega

/-- At every point window 0 reads the first positions whole. -/
theorem iblk_0 (c : Dev nD) (t : Fin cfg0.N) : (iblk m c 0 t : Vec F S64x4 .i32) = V m c main_arg16 := by
  have hz : (fun a => win0_0.index t a * main_arg16.ty.shape.size a) = fun _ => 0 := funext fun a => by fin_cases a <;> rfl
  exact Memref.read_access_unit_zero (Elt F) main_arg16 hz (fun a => by rw [congrFun hz a]; simp) (V m c main_arg16)

/-- At every point window 1 reads the second positions whole. -/
theorem iblk_1 (c : Dev nD) (t : Fin cfg0.N) : (iblk m c 1 t : Vec F S64x4 .i32) = V m c main_arg17 := by
  have hz : (fun a => win0_1.index t a * main_arg17.ty.shape.size a) = fun _ => 0 := funext fun a => by fin_cases a <;> rfl
  exact Memref.read_access_unit_zero (Elt F) main_arg17 hz (fun a => by rw [congrFun hz a]; simp) (V m c main_arg17)

/-- At every point window 3 reads the stacked weights whole. -/
theorem iblk_3 (c : Dev nD) (t : Fin cfg0.N) : (iblk m c 3 t : Vec F S256x512 .f32) = arrW m c := by
  have hz : (fun a => win0_3.index t a * main_v105.ty.shape.size a) = fun _ => 0 := funext fun a => by fin_cases a <;> rfl
  exact Memref.read_access_unit_zero (Elt F) main_v105 hz (fun a => by rw [congrFun hz a]; simp) (V m c main_v105)

/-- At every point window 4 reads the summed bias whole. -/
theorem iblk_4 (c : Dev nD) (t : Fin cfg0.N) : (iblk m c 4 t : Vec F S1x512 .f32) = arrB m c := by
  have hz : (fun a => win0_4.index t a * main_v107.ty.shape.size a) = fun _ => 0 := funext fun a => by fin_cases a <;> rfl
  exact Memref.read_access_unit_zero (Elt F) main_v107 hz (fun a => by rw [congrFun hz a]; simp) (V m c main_v107)

/-! ## What each point leaves -/

/-- What point `n` leaves: both pooled sums and both states after `n + 1` steps. -/
def leftAt (c : Dev nD) (n : ℕ) : Vec F S64x128 .f32 × Vec F S64x128 .f32 × Vec F S64x128 .f32 × Vec F S64x128 .f32 :=
  (poolAt (V m c main_arg16) (arrE m c) (arrW m c) (arrB m c) (n + 1), poolAt (V m c main_arg17) (arrE m c) (arrW m c) (arrB m c) (n + 1),
    (hcAt (arrE m c) (arrW m c) (arrB m c) (n + 1)).1, (hcAt (arrE m c) (arrW m c) (arrB m c) (n + 1)).2)

/-- The step's number, broadcast over the positions. -/
theorem pay12_eq (t : Fin cfg0.N) : k0_pay12 (grid0.coords t) = broadcast S64x4 (BitVec.ofNat 32 t.val) := by
  unfold k0_pay12; dsimp only; rw [coord]

/-- The first output's update adds the weighted hidden state, in the form the second output's update has. -/
theorem pay2_eq (a : BitVec 32) (v : FVec F S64x128 .f32) (p : Vec F S64x4 .i32) (x : Vec F S64x128 .f32) :
    k0_pay2 a v p x = k0_pay1 v p (broadcast S64x4 a) x := rfl

/-- What the generated outputs leave after each step is what the step's own equations leave. -/
theorem outsAt_eq (c : Dev nD) : ∀ (n : ℕ) (h : n < cfg0.N), outsAt0 m c n h = leftAt m c n
  | 0, h => by
    refine (outsAt0_A m c ⟨0, h⟩ rfl).trans ?_
    rw [out_A_5, out_A_6, sout_A_0, sout_A_1, iblk_0, iblk_1, iblk_2, iblk_3, iblk_4, pay12_eq, pay2_eq, coord]
    rfl
  | n + 1, h => by
    have hN : cfg0.N = 512 := N_0
    have hB : ¬(⟨n + 1, h⟩ : Fin cfg0.N).val % 512 = 0 := by dsimp only; omega
    refine (outsAt0_B m c ⟨n + 1, h⟩ hB).trans ?_
    rw [out_B_5, out_B_6, sout_B_0, sout_B_1, iblk_0, iblk_1, iblk_2, iblk_3, iblk_4, pay12_eq, pay2_eq, coord]
    rw [show outsAt0 m c ((⟨n + 1, h⟩ : Fin cfg0.N).val - 1) (Nat.lt_of_le_of_lt (Nat.sub_le _ _) h) = leftAt m c n from outsAt_eq c n (Nat.lt_of_succ_lt h)]
    rfl

/-! ## The two output arrays -/

/-- The last point of the grid. -/
abbrev tLast : Fin cfg0.N := ⟨511, by rw [show cfg0.N = 512 from N_0]; decide⟩

/-- The first output array ends at the first pooled sum after all 512 steps. -/
abbrev final5 (c : Dev nD) : Buf (Elt F) ((c : Thread nD τ).loc main_v109_0) :=
  poolAt (V m c main_arg16) (arrE m c) (arrW m c) (arrB m c) 512

/-- The second output array ends at the second pooled sum after all 512 steps. -/
abbrev final6 (c : Dev nD) : Buf (Elt F) ((c : Thread nD τ).loc main_v109_1) :=
  poolAt (V m c main_arg17) (arrE m c) (arrW m c) (arrB m c) 512

/-- What the first output's window holds when it is written back. -/
theorem flushed5_eq (c : Dev nD) (t : Fin cfg0.N) (hf : (cfg0.win 5).flush t = true) :
    (dats m 0 c).flushed 5 t = ((cfg0.win 5).blk t).view.read (Elt F) (final5 m c) := by
  have hN : cfg0.N = 512 := N_0
  have h3 : t.val = 511 := by have := (flush0_5 t).mp hf; have := t.isLt; omega
  obtain rfl : t = tLast := Fin.ext h3
  show (cfg0.win 5).cut (grid0.coords tLast) ((dats m 0 c).after 5 tLast) = _
  rw [after0_5, outsAt_eq]
  have hz : (fun a => win0_5.index tLast a * main_v109_0.ty.shape.size a) = fun _ => 0 := funext fun a => by fin_cases a <;> rfl
  exact (Memref.read_access_unit_zero (Elt F) main_v109_0 hz (fun a => by rw [congrFun hz a]; simp) (final5 m c)).symm

/-- What the second output's window holds when it is written back. -/
theorem flushed6_eq (c : Dev nD) (t : Fin cfg0.N) (hf : (cfg0.win 6).flush t = true) :
    (dats m 0 c).flushed 6 t = ((cfg0.win 6).blk t).view.read (Elt F) (final6 m c) := by
  have hN : cfg0.N = 512 := N_0
  have h3 : t.val = 511 := by have := (flush0_6 t).mp hf; have := t.isLt; omega
  obtain rfl : t = tLast := Fin.ext h3
  show (cfg0.win 6).cut (grid0.coords tLast) ((dats m 0 c).after 6 tLast) = _
  rw [after0_6, outsAt_eq]
  have hz : (fun a => win0_6.index tLast a * main_v109_1.ty.shape.size a) = fun _ => 0 := funext fun a => by fin_cases a <;> rfl
  exact (Memref.read_access_unit_zero (Elt F) main_v109_1 hz (fun a => by rw [congrFun hz a]; simp) (final6 m c)).symm

/-- The first pooled output at the region's end. -/
theorem arr5 (c : Dev nD) : (dats m 0 c).arrAt 5 cfg0.N = final5 m c :=
  (dats m 0 c).arrAt_eq_of_cover 5 (final5 m c) (flushed5_eq m c) fun i =>
    ⟨tLast, (flush0_5 tLast).mpr rfl, by
      show i ∈ ((View.whole main_v109_0).slice (win0_5.rect tLast)).set
      rw [View.set_slice_whole, Rect.mem_set_unit]
      intro a
      have h0 : (i 0 : Nat) < 64 := (i 0).isLt
      have h1 : (i 1 : Nat) < 128 := (i 1).isLt
      match a with
      | ⟨0, _⟩ => show 0 * 64 ≤ (i 0 : Nat) ∧ (i 0 : Nat) < 0 * 64 + 64; omega
      | ⟨1, _⟩ => show 0 * 128 ≤ (i 1 : Nat) ∧ (i 1 : Nat) < 0 * 128 + 128; omega⟩

/-- The second pooled output at the region's end. -/
theorem arr6 (c : Dev nD) : (dats m 0 c).arrAt 6 cfg0.N = final6 m c :=
  (dats m 0 c).arrAt_eq_of_cover 6 (final6 m c) (flushed6_eq m c) fun i =>
    ⟨tLast, (flush0_6 tLast).mpr rfl, by
      show i ∈ ((View.whole main_v109_1).slice (win0_6.rect tLast)).set
      rw [View.set_slice_whole, Rect.mem_set_unit]
      intro a
      have h0 : (i 0 : Nat) < 64 := (i 0).isLt
      have h1 : (i 1 : Nat) < 128 := (i 1).isLt
      match a with
      | ⟨0, _⟩ => show 0 * 64 ≤ (i 0 : Nat) ∧ (i 0 : Nat) < 0 * 64 + 64; omega
      | ⟨1, _⟩ => show 0 * 128 ≤ (i 1 : Nat) ∧ (i 1 : Nat) < 0 * 128 + 128; omega⟩

end Cert.KernelIdeal.Val

end
-- ==== Proof.Host.lean ====
/-
  The host operations of the kernel, before and after its region: what the region's input arrays hold, and what the four
  results hold in terms of the node features, the positions and the region's two output arrays.
-/
module

public import proofs.«01_k».proof.Proof.Region
public import Idealize.ShloMosaic.Lib.Pipeline.Regions
public import Idealize.ShloMosaic.Lib.StableHlo.RunLoop
public import Idealize.ShloMosaic.Lib.StableHlo.RunRead

@[expose] public section

noncomputable section

namespace Cert.KernelIdeal.Val

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]

/-! ## The values, over arrays -/

/-- Indices that may count from the end of an axis of length `n`, as indices from its start, in a column. -/
def wrapCol (n : BitVec 32) (i : Vec F S393216 .i32) : Vec F S393216x1 .i32 :=
  broadcastInDim S393216x1 ![0] bcast_S393216_S393216x1_0
    (select (cmpi .slt i (broadcastInDim S393216 ![] bcast_S_S393216 (constantI S_ 32 0#32)))
      (addi i (broadcastInDim S393216 ![] bcast_S_S393216 (constantI S_ 32 n))) i)

/-- The source node of each edge. -/
def edgeSrc (ei : Vec F S2x393216 .i32) : Vec F S393216 .i32 :=
  shapeCast S393216 (extractStridedSlice S1x393216 ![0, 0] ei slices_S2x393216_S1x393216_0_0) shapeCasts_S1x393216_S393216

/-- The destination node of each edge. -/
def edgeDst (ei : Vec F S2x393216 .i32) : Vec F S393216 .i32 :=
  shapeCast S393216 (extractStridedSlice S1x393216 ![1, 0] ei slices_S2x393216_S1x393216_1_0) shapeCasts_S1x393216_S393216

/-- One gated graph convolution before its rectifier: gated messages along the edges, summed at their destinations. -/
def messages (x : Vec F S32768x128 .f32) (W : Vec F S128x128 .f32) (b : Vec F S46x128 .f32) (wg : Vec F S128 .f32)
    (bg : Vec F S46 .f32) (src dst lab : Vec F S393216 .i32) : Vec F S32768x128 .f32 :=
  Host.scatterAdd scatter_S32768x128_S393216x1_S393216x128_1_0_0_1
    (broadcastInDim S32768x128 ![] bcast_S_S32768x128 (constant S_ .f32 0x00000000#32))
    (wrapCol 32768#32 dst)
    (mulf
      (broadcastInDim S393216x128 ![0, 1] bcast_S393216x1_S393216x128_0_1
        (broadcastInDim S393216x1 ![0] bcast_S393216_S393216x1_0
          (Host.divf (broadcastInDim S393216 ![] bcast_S_S393216 (constant S_ .f32 0x3F800000#32))
            (addf (broadcastInDim S393216 ![] bcast_S_S393216 (constant S_ .f32 0x3F800000#32))
              (Host.exp (Host.negf
                (addf
                  (Host.gather gather_S32768_S393216x1_S393216_n_0_n_n_0_1_1
                    (Host.dotGeneral dot_S32768x128_S128_S32768_1_0_0_n_n_n none x wg) (wrapCol 32768#32 src))
                  (Host.gather gather_S46_S393216x1_S393216_n_0_n_n_0_1_1 bg (wrapCol 46#32 lab)))))))))
      (addf
        (Host.gather gather_S32768x128_S393216x1_S393216x128_1_0_n_n_0_1_1128
          (Host.dotGeneral dot_S32768x128_S128x128_S32768x128_1_0_0_1_n_n none x W) (wrapCol 32768#32 src))
        (Host.gather gather_S46x128_S393216x1_S393216x128_1_0_n_n_0_1_1128 b (wrapCol 46#32 lab))))

/-- The rectifier on node features. -/
def rectify (x : Vec F S32768x128 .f32) : Vec F S32768x128 .f32 :=
  maximumf x (broadcastInDim S32768x128 ![] bcast_S_S32768x128 (constant S_ .f32 0x00000000#32))

/-- Positions that may count from the end of a sentence, as positions from its start. -/
def wrapPos (p : Vec F S64x4x1 .i32) : Vec F S64x4x1 .i32 :=
  select (cmpi .slt p (broadcastInDim S64x4x1 ![] bcast_S_S64x4x1 (constantI S_ 32 0#32)))
    (addi p (broadcastInDim S64x4x1 ![] bcast_S_S64x4x1 (constantI S_ 32 512#32))) p

/-- The rows of `x` at four positions per sentence; a row no sentence has is not a number. -/
def takeRows (x : Vec F S64x512x128 .f32) (p : Vec F S64x4x1 .i32) : Vec F S64x4x128 .f32 :=
  select
    (broadcastInDim S64x4x128 ![0, 1] bcast_S64x4_S64x4x128_0_1
      (Host.reduce IntOp.andi
        (andi (cmpi .sge (wrapPos (F := F) p) (broadcastInDim S64x4x1 ![] bcast_S_S64x4x1 (constantI S_ 32 0#32)))
          (cmpi .sle (wrapPos (F := F) p)
            (broadcastInDim S64x4x1 ![0, 1, 2] bcast_S1x1x1_S64x4x1_0_1_2
              (broadcastInDim S1x1x1 ![2] bcast_S1_S1x1x1_2 (constantI S1 32 511#32)))))
        (constantI S_ 1 1#1) reducesTo_S64x4x1_S64x4_d2 h_S_))
    (Host.gather gather_S64x512x128_S64x4x1_S64x4x128_2_1_0_0_1_2_11128 x (wrapPos (F := F) p))
    (broadcastInDim S64x4x128 ![] bcast_S_S64x4x128 (constant S_ .f32 0x7FC00000#32))

/-- The mean of four rows per sentence. -/
def meanRows (x : Vec F S64x4x128 .f32) : Vec F S64x128 .f32 :=
  Host.divf (Host.reduceAdd x (constant S_ .f32 0x00000000#32) reducesTo_S64x4x128_S64x128_d1 h_S_)
    (broadcastInDim S64x128 ![] bcast_S_S64x128 (constant S_ .f32 0x40800000#32))

/-- The mean of the rows of `x` at the positions `pos`, per sentence. -/
def meanAt (x : Vec F S64x512x128 .f32) (pos : Vec F S64x4 .i32) : Vec F S64x128 .f32 :=
  meanRows (takeRows x (broadcastInDim S64x4x1 ![0, 1] bcast_S64x4_S64x4x1_0_1 pos))

/-! ## What each stretch of host operations writes -/

/-- The buffers `hostOps0` writes. -/
abbrev hostOps0_W : List (Ref sig .tc) :=
  [main_v0, main_v1, main_v2, main_v3, main_v4, main_c, main_v5, main_v6, main_c_0, main_v7, main_v8, main_v9, main_v10,
   main_v11, main_c_1, main_v12, main_v13, main_c_2, main_v14, main_v15, main_v16, main_v17, main_v18, main_v19, main_v20,
   main_c_3, main_v21, main_v22, main_c_4, main_v23, main_v24, main_v25, main_v26, main_v27, main_c_5, main_v28, main_v29,
   main_c_6, main_v30, main_v31, main_v32, main_v33, main_v34, main_v35, main_v36, main_v37, main_cst, main_v38, main_v39,
   main_cst_7, main_v40, main_v41, main_cst_8, main_v42, main_v43, main_v44, main_v45, main_c_9, main_v46, main_v47, main_c_10,
   main_v48, main_v49, main_v50, main_v51, main_v52]
/-- The operations `hostOps0` write only the buffers listed for them. -/
theorem hostOps0_writes : (hostOps0 : List (HloOp τ sig (Elt F))).Forall fun op => op.writes ⊆ (hostOps0_W.map (Proc.devRef (τ := τ) .tc)).toFinset :=
  StableHlo.forall_writes_sub_of_map rfl

/-- The buffers `hostOps0_1` writes. -/
abbrev hostOps0_1_W : List (Ref sig .tc) :=
  [main_call0_cst, main_call0_v0, main_v53]
/-- The operations `hostOps0_1` write only the buffers listed for them. -/
theorem hostOps0_1_writes : (hostOps0_1 : List (HloOp τ sig (Elt F))).Forall fun op => op.writes ⊆ (hostOps0_1_W.map (Proc.devRef (τ := τ) .tc)).toFinset :=
  StableHlo.forall_writes_sub_of_map rfl

/-- The buffers `hostOps0_2` writes. -/
abbrev hostOps0_2_W : List (Ref sig .tc) :=
  [main_v54, main_c_11, main_v55, main_v56, main_c_12, main_v57, main_v58, main_v59, main_v60, main_v61, main_c_13, main_v62,
   main_v63, main_c_14, main_v64, main_v65, main_v66, main_v67, main_v68, main_v69, main_v70, main_c_15, main_v71, main_v72,
   main_c_16, main_v73, main_v74, main_v75, main_v76, main_v77, main_c_17, main_v78, main_v79, main_c_18, main_v80, main_v81,
   main_v82, main_v83, main_v84, main_v85, main_v86, main_v87, main_cst_19, main_v88, main_v89, main_cst_20, main_v90,
   main_v91, main_cst_21, main_v92, main_v93, main_v94, main_v95, main_c_22, main_v96, main_v97, main_c_23, main_v98, main_v99,
   main_v100, main_v101, main_v102]
/-- The operations `hostOps0_2` write only the buffers listed for them. -/
theorem hostOps0_2_writes : (hostOps0_2 : List (HloOp τ sig (Elt F))).Forall fun op => op.writes ⊆ (hostOps0_2_W.map (Proc.devRef (τ := τ) .tc)).toFinset :=
  StableHlo.forall_writes_sub_of_map rfl

/-- The buffers `hostOps0_3` writes. -/
abbrev hostOps0_3_W : List (Ref sig .tc) :=
  [main_call1_cst, main_call1_v0, main_v103]
/-- The operations `hostOps0_3` write only the buffers listed for them. -/
theorem hostOps0_3_writes : (hostOps0_3 : List (HloOp τ sig (Elt F))).Forall fun op => op.writes ⊆ (hostOps0_3_W.map (Proc.devRef (τ := τ) .tc)).toFinset :=
  StableHlo.forall_writes_sub_of_map rfl

/-- The buffers `hostOps0_4` writes. -/
abbrev hostOps0_4_W : List (Ref sig .tc) :=
  [main_v104, main_v105, main_v106, main_v107, main_v108]
/-- The operations `hostOps0_4` write only the buffers listed for them. -/
theorem hostOps0_4_writes : (hostOps0_4 : List (HloOp τ sig (Elt F))).Forall fun op => op.writes ⊆ (hostOps0_4_W.map (Proc.devRef (τ := τ) .tc)).toFinset :=
  StableHlo.forall_writes_sub_of_map rfl

/-- The buffers `hostOps1` writes. -/
abbrev hostOps1_W : List (Ref sig .tc) :=
  [main_v110]
/-- The operations `hostOps1` write only the buffers listed for them. -/
theorem hostOps1_writes : (hostOps1 : List (HloOp τ sig (Elt F))).Forall fun op => op.writes ⊆ (hostOps1_W.map (Proc.devRef (τ := τ) .tc)).toFinset :=
  StableHlo.forall_writes_sub_of_map rfl

/-- The buffers `hostOps1_1` writes. -/
abbrev hostOps1_1_W : List (Ref sig .tc) :=
  [main_call2_c, main_call2_v0, main_call2_v1, main_call2_c_0, main_call2_v2, main_call2_v3, main_call2_v4, main_call2_c_1,
   main_call2_c_2, main_call2_v5, main_call2_v6, main_call2_v7, main_call2_v8, main_call2_v9, main_call2_v10, main_call2_c_3,
   main_call2_v11, main_call2_v12, main_call2_v13, main_call2_cst, main_call2_v14, main_v111]
/-- The operations `hostOps1_1` write only the buffers listed for them. -/
theorem hostOps1_1_writes : (hostOps1_1 : List (HloOp τ sig (Elt F))).Forall fun op => op.writes ⊆ (hostOps1_1_W.map (Proc.devRef (τ := τ) .tc)).toFinset :=
  StableHlo.forall_writes_sub_of_map rfl

/-- The buffers `hostOps1_2` writes. -/
abbrev hostOps1_2_W : List (Ref sig .tc) :=
  [main_cst_24, main_v112, main_cst_25, main_v113, main_v114, main_v115]
/-- The operations `hostOps1_2` write only the buffers listed for them. -/
theorem hostOps1_2_writes : (hostOps1_2 : List (HloOp τ sig (Elt F))).Forall fun op => op.writes ⊆ (hostOps1_2_W.map (Proc.devRef (τ := τ) .tc)).toFinset :=
  StableHlo.forall_writes_sub_of_map rfl

/-- The buffers `hostOps1_3` writes. -/
abbrev hostOps1_3_W : List (Ref sig .tc) :=
  [main_call3_c, main_call3_v0, main_call3_v1, main_call3_c_0, main_call3_v2, main_call3_v3, main_call3_v4, main_call3_c_1,
   main_call3_c_2, main_call3_v5, main_call3_v6, main_call3_v7, main_call3_v8, main_call3_v9, main_call3_v10, main_call3_c_3,
   main_call3_v11, main_call3_v12, main_call3_v13, main_call3_cst, main_call3_v14, main_v116]
/-- The operations `hostOps1_3` write only the buffers listed for them. -/
theorem hostOps1_3_writes : (hostOps1_3 : List (HloOp τ sig (Elt F))).Forall fun op => op.writes ⊆ (hostOps1_3_W.map (Proc.devRef (τ := τ) .tc)).toFinset :=
  StableHlo.forall_writes_sub_of_map rfl

/-- The buffers `hostOps1_4` writes. -/
abbrev hostOps1_4_W : List (Ref sig .tc) :=
  [main_cst_26, main_v117, main_cst_27, main_v118, main_v119, main_v120, main_v121, main_v122, main_v123]
/-- The operations `hostOps1_4` write only the buffers listed for them. -/
theorem hostOps1_4_writes : (hostOps1_4 : List (HloOp τ sig (Elt F))).Forall fun op => op.writes ⊆ (hostOps1_4_W.map (Proc.devRef (τ := τ) .tc)).toFinset :=
  StableHlo.forall_writes_sub_of_map rfl

/-! ## What each stretch computes, from any contents -/

section Stretches

variable (U : Valuation τ sig (Elt F))

set_option maxRecDepth 8192
set_option maxHeartbeats 2000000

/-- What the operations `hostOps0` leave in `main_v1`. -/
theorem after0_v1 : after hostOps0 U (Proc.devRef .tc main_v1) = edgeSrc (F := F) (U (Proc.devRef .tc main_arg14)) := by
  unfold edgeSrc
  simp only [hostOps0]
  after_results_entrywise [cast_eq]

/-- What the operations `hostOps0` leave in `main_v3`. -/
theorem after0_v3 : after hostOps0 U (Proc.devRef .tc main_v3) = edgeDst (F := F) (U (Proc.devRef .tc main_arg14)) := by
  unfold edgeDst
  simp only [hostOps0]
  after_results_entrywise [cast_eq]

/-- The first graph convolution before its rectifier. -/
theorem after0_v52 : after hostOps0 U (Proc.devRef .tc main_v52) =
    messages (U (Proc.devRef .tc main_arg0)) (U (Proc.devRef .tc main_arg2)) (U (Proc.devRef .tc main_arg3))
      (U (Proc.devRef .tc main_arg4)) (U (Proc.devRef .tc main_arg5)) (edgeSrc (F := F) (U (Proc.devRef .tc main_arg14)))
      (edgeDst (F := F) (U (Proc.devRef .tc main_arg14))) (U (Proc.devRef .tc main_arg15)) := by
  unfold messages edgeSrc edgeDst wrapCol
  simp only [hostOps0]
  after_results_entrywise [cast_eq]

/-- What the operations `hostOps0_1` leave in `main_v53`. -/
theorem after0_1_v53 : after hostOps0_1 U (Proc.devRef .tc main_v53) = rectify (U (Proc.devRef .tc main_v52)) := by
  unfold rectify
  simp only [hostOps0_1]
  after_results_entrywise [cast_eq]

/-- The second graph convolution before its rectifier. -/
theorem after0_2_v102 : after hostOps0_2 U (Proc.devRef .tc main_v102) =
    messages (U (Proc.devRef .tc main_v53)) (U (Proc.devRef .tc main_arg6)) (U (Proc.devRef .tc main_arg7))
      (U (Proc.devRef .tc main_arg8)) (U (Proc.devRef .tc main_arg9)) (U (Proc.devRef .tc main_v1))
      (U (Proc.devRef .tc main_v3)) (U (Proc.devRef .tc main_arg15)) := by
  unfold messages wrapCol
  simp only [hostOps0_2]
  after_results_entrywise [cast_eq]

/-- What the operations `hostOps0_3` leave in `main_v103`. -/
theorem after0_3_v103 : after hostOps0_3 U (Proc.devRef .tc main_v103) = rectify (U (Proc.devRef .tc main_v102)) := by
  unfold rectify
  simp only [hostOps0_3]
  after_results_entrywise [cast_eq]

/-- What the operations `hostOps0_4` leave in `main_v104`. -/
theorem after0_4_v104 : after hostOps0_4 U (Proc.devRef .tc main_v104) =
    shapeCast S64x512x128 (U (Proc.devRef .tc main_v103) : Vec F S32768x128 .f32) shapeCasts_S32768x128_S64x512x128 := by
  simp only [hostOps0_4]
  after_results_entrywise [cast_eq]

/-- What the operations `hostOps0_4` leave in `main_v105`. -/
theorem after0_4_v105 : after hostOps0_4 U (Proc.devRef .tc main_v105) =
    concatenate S256x512 0 [⟨S128x512, (U (Proc.devRef .tc main_arg10) : Vec F S128x512 .f32)⟩,
      ⟨S128x512, (U (Proc.devRef .tc main_arg11) : Vec F S128x512 .f32)⟩] concatenates_S128x512_S128x512_S256x512_d0 := by
  simp only [hostOps0_4]
  after_results_entrywise [cast_eq]

/-- What the operations `hostOps0_4` leave in `main_v107`. -/
theorem after0_4_v107 : after hostOps0_4 U (Proc.devRef .tc main_v107) =
    shapeCast S1x512 (addf (U (Proc.devRef .tc main_arg12) : Vec F S512 .f32) (U (Proc.devRef .tc main_arg13)))
      shapeCasts_S512_S1x512 := by
  simp only [hostOps0_4]
  after_results_entrywise [cast_eq]

/-- What the operations `hostOps0_4` leave in `main_v108`. -/
theorem after0_4_v108 : after hostOps0_4 U (Proc.devRef .tc main_v108) =
    transpose S512x64x128 [1, 0, 2] (U (Proc.devRef .tc main_arg1) : Vec F S64x512x128 .f32)
      transposes_S64x512x128_S512x64x128_1_0_2 := by
  simp only [hostOps0_4]
  after_results_entrywise [cast_eq]

/-- What the operations `hostOps1` leave in `main_v110`. -/
theorem after1_v110 : after hostOps1 U (Proc.devRef .tc main_v110) =
    broadcastInDim S64x4x1 ![0, 1] bcast_S64x4_S64x4x1_0_1 (U (Proc.devRef .tc main_arg16) : Vec F S64x4 .i32) := by
  simp only [hostOps1]
  after_results_entrywise [cast_eq]

/-- What the operations `hostOps1_1` leave in `main_v111`. -/
theorem after1_1_v111 : after hostOps1_1 U (Proc.devRef .tc main_v111) =
    takeRows (F := F) (U (Proc.devRef .tc main_v104)) (U (Proc.devRef .tc main_v110)) := by
  unfold takeRows wrapPos
  simp only [hostOps1_1]
  after_results_entrywise [cast_eq]

/-- What the operations `hostOps1_2` leave in `main_v114`. -/
theorem after1_2_v114 : after hostOps1_2 U (Proc.devRef .tc main_v114) = meanRows (U (Proc.devRef .tc main_v111)) := by
  unfold meanRows
  simp only [hostOps1_2]
  after_results_entrywise [cast_eq]

/-- What the operations `hostOps1_2` leave in `main_v115`. -/
theorem after1_2_v115 : after hostOps1_2 U (Proc.devRef .tc main_v115) =
    broadcastInDim S64x4x1 ![0, 1] bcast_S64x4_S64x4x1_0_1 (U (Proc.devRef .tc main_arg17) : Vec F S64x4 .i32) := by
  simp only [hostOps1_2]
  after_results_entrywise [cast_eq]

/-- What the operations `hostOps1_3` leave in `main_v116`. -/
theorem after1_3_v116 : after hostOps1_3 U (Proc.devRef .tc main_v116) =
    takeRows (F := F) (U (Proc.devRef .tc main_v104)) (U (Proc.devRef .tc main_v115)) := by
  unfold takeRows wrapPos
  simp only [hostOps1_3]
  after_results_entrywise [cast_eq]

/-- What the operations `hostOps1_4` leave in `main_v120`. -/
theorem after1_4_v120 : after hostOps1_4 U (Proc.devRef .tc main_v120) =
    shapeCast S8192 (U (Proc.devRef .tc main_v114) : Vec F S64x128 .f32) shapeCasts_S64x128_S8192 := by
  simp only [hostOps1_4]
  after_results_entrywise [cast_eq]

/-- What the operations `hostOps1_4` leave in `main_v121`. -/
theorem after1_4_v121 : after hostOps1_4 U (Proc.devRef .tc main_v121) =
    shapeCast S8192 (meanRows (U (Proc.devRef .tc main_v116))) shapeCasts_S64x128_S8192 := by
  unfold meanRows
  simp only [hostOps1_4]
  after_results_entrywise [cast_eq]

/-- What the operations `hostOps1_4` leave in `main_v122`. -/
theorem after1_4_v122 : after hostOps1_4 U (Proc.devRef .tc main_v122) =
    shapeCast S8192 (U (Proc.devRef .tc main_v109_0) : Vec F S64x128 .f32) shapeCasts_S64x128_S8192 := by
  simp only [hostOps1_4]
  after_results_entrywise [cast_eq]

/-- What the operations `hostOps1_4` leave in `main_v123`. -/
theorem after1_4_v123 : after hostOps1_4 U (Proc.devRef .tc main_v123) =
    shapeCast S8192 (U (Proc.devRef .tc main_v109_1) : Vec F S64x128 .f32) shapeCasts_S64x128_S8192 := by
  simp only [hostOps1_4]
  after_results_entrywise [cast_eq]

end Stretches

/-! ## What the region finds -/

/-- Running one stretch after another is running both. -/
theorem after_two (l₁ l₂ : List (HloOp τ sig (Elt F))) (U : Valuation τ sig (Elt F)) :
    after (l₁ ++ l₂) U = after l₂ (after l₁ U) := by
  induction l₁ generalizing U with
  | nil => rfl
  | cons op l ih => exact ih _

/-- The node features after both graph convolutions, per sentence and position. -/
def nodes (x : Vec F S32768x128 .f32) (W₁ : Vec F S128x128 .f32) (b₁ : Vec F S46x128 .f32) (wg₁ : Vec F S128 .f32)
    (bg₁ : Vec F S46 .f32) (W₂ : Vec F S128x128 .f32) (b₂ : Vec F S46x128 .f32) (wg₂ : Vec F S128 .f32) (bg₂ : Vec F S46 .f32)
    (ei : Vec F S2x393216 .i32) (lab : Vec F S393216 .i32) : Vec F S64x512x128 .f32 :=
  shapeCast S64x512x128
    (rectify (messages (rectify (messages x W₁ b₁ wg₁ bg₁ (edgeSrc (F := F) ei) (edgeDst (F := F) ei) lab)) W₂ b₂ wg₂ bg₂
      (edgeSrc (F := F) ei) (edgeDst (F := F) ei) lab))
    shapeCasts_S32768x128_S64x512x128

section Region

variable (m : (b : Loc nD τ sig) → Buf (Elt F) b)

/-- The contents at the region are those after the five stretches, one after the other. -/
theorem V0_eq (c : Dev nD) : V0 m c =
    after hostOps0_4 (after hostOps0_3 (after hostOps0_2 (after hostOps0_1 (after hostOps0 fun b => m (c, b))))) := by
  unfold V0
  simp only [List.flatten_cons, List.flatten_nil, List.append_nil, after_two]

/-- A buffer the first four stretches leave alone is as launched when the fifth starts. -/
theorem before4 (c : Dev nD) (b : Ref sig .tc) (h0 : b ∉ hostOps0_W) (h1 : b ∉ hostOps0_1_W) (h2 : b ∉ hostOps0_2_W)
    (h3 : b ∉ hostOps0_3_W) :
    after hostOps0_3 (after hostOps0_2 (after hostOps0_1 (after hostOps0 fun b => m (c, b)))) (Proc.devRef .tc b)
      = m (c, Proc.devRef .tc b) := by
  rw [after_of_writes_sub hostOps0_3 _ hostOps0_3_writes h3, after_of_writes_sub hostOps0_2 _ hostOps0_2_writes h2,
    after_of_writes_sub hostOps0_1 _ hostOps0_1_writes h1, after_of_writes_sub hostOps0 _ hostOps0_writes h0]

/-- A buffer the first two stretches leave alone is as launched when the third starts. -/
theorem before2 (c : Dev nD) (b : Ref sig .tc) (h0 : b ∉ hostOps0_W) (h1 : b ∉ hostOps0_1_W) :
    after hostOps0_1 (after hostOps0 fun b => m (c, b)) (Proc.devRef .tc b) = m (c, Proc.devRef .tc b) := by
  rw [after_of_writes_sub hostOps0_1 _ hostOps0_1_writes h1, after_of_writes_sub hostOps0 _ hostOps0_writes h0]

/-- The region finds the gate weights, input rows over hidden rows. -/
theorem V_v105 (c : Dev nD) : V m c main_v105 =
    concatenate S256x512 0 [⟨S128x512, (m (c, Proc.devRef .tc main_arg10) : Vec F S128x512 .f32)⟩,
      ⟨S128x512, (m (c, Proc.devRef .tc main_arg11) : Vec F S128x512 .f32)⟩] concatenates_S128x512_S128x512_S256x512_d0 := by
  unfold V
  rw [V0_eq, after0_4_v105, before4 m c main_arg10 (by decide) (by decide) (by decide) (by decide),
    before4 m c main_arg11 (by decide) (by decide) (by decide) (by decide)]

/-- The region finds the sum of the two biases. -/
theorem V_v107 (c : Dev nD) : V m c main_v107 =
    shapeCast S1x512 (addf (m (c, Proc.devRef .tc main_arg12) : Vec F S512 .f32) (m (c, Proc.devRef .tc main_arg13)))
      shapeCasts_S512_S1x512 := by
  unfold V
  rw [V0_eq, after0_4_v107, before4 m c main_arg12 (by decide) (by decide) (by decide) (by decide),
    before4 m c main_arg13 (by decide) (by decide) (by decide) (by decide)]

/-- The region finds the word embedding, time first. -/
theorem V_v108 (c : Dev nD) : V m c main_v108 =
    transpose S512x64x128 [1, 0, 2] (m (c, Proc.devRef .tc main_arg1) : Vec F S64x512x128 .f32)
      transposes_S64x512x128_S512x64x128_1_0_2 := by
  unfold V
  rw [V0_eq, after0_4_v108, before4 m c main_arg1 (by decide) (by decide) (by decide) (by decide)]

/-- The node features of the launch arguments. -/
def nodesOf (c : Dev nD) : Vec F S64x512x128 .f32 :=
  nodes (m (c, Proc.devRef .tc main_arg0)) (m (c, Proc.devRef .tc main_arg2)) (m (c, Proc.devRef .tc main_arg3))
    (m (c, Proc.devRef .tc main_arg4)) (m (c, Proc.devRef .tc main_arg5)) (m (c, Proc.devRef .tc main_arg6))
    (m (c, Proc.devRef .tc main_arg7)) (m (c, Proc.devRef .tc main_arg8)) (m (c, Proc.devRef .tc main_arg9))
    (m (c, Proc.devRef .tc main_arg14)) (m (c, Proc.devRef .tc main_arg15))

/-- The region finds the node features. -/
theorem V_v104 (c : Dev nD) : V m c main_v104 = nodesOf m c := by
  unfold V
  rw [V0_eq, after0_4_v104, after0_3_v103, after0_2_v102, after0_1_v53, after0_v52,
    before2 m c main_arg6 (by decide) (by decide), before2 m c main_arg7 (by decide) (by decide),
    before2 m c main_arg8 (by decide) (by decide), before2 m c main_arg9 (by decide) (by decide),
    before2 m c main_arg15 (by decide) (by decide),
    after_of_writes_sub hostOps0_1 _ hostOps0_1_writes (r := main_v1) (by decide),
    after_of_writes_sub hostOps0_1 _ hostOps0_1_writes (r := main_v3) (by decide), after0_v1, after0_v3]
  rfl

/-! ## What the launch ends with -/

/-- The contents right after the region. -/
abbrev mid (c : Dev nD) : Valuation τ sig (Elt F) :=
  Pipeline.withArrays (cfgs 0).spec c (V0 m c) fun w => (dats m 0 c).arrAt w (cfgs 0).N

/-- The contents at the end are those after the five last stretches, one after the other, from the region's. -/
theorem end_eq (c : Dev nD) (b : Ref sig .tc) :
    Pipeline.afterTail₀ cfgs (dats m) 0 (V0 m) [hostOps1, hostOps1_1, hostOps1_2, hostOps1_3, hostOps1_4] c b =
      after hostOps1_4 (after hostOps1_3 (after hostOps1_2 (after hostOps1_1 (after hostOps1 (mid m c)))))
        (Proc.devRef .tc b) := by
  unfold Pipeline.afterTail₀
  simp only [List.flatten_cons, List.flatten_nil, List.append_nil, after_two]

/-- After the region its first output holds the first pooled sum. -/
theorem mid_v109_0 (c : Dev nD) : mid m c (Proc.devRef .tc main_v109_0) = final5 m c :=
  (Pipeline.withArrays_arr (cfgs 0).spec (by decide : Function.Injective (Pipeline.arrRef spec0)) c (V0 m c) _ 5).trans (arr5 m c)

/-- After the region its second output holds the second pooled sum. -/
theorem mid_v109_1 (c : Dev nD) : mid m c (Proc.devRef .tc main_v109_1) = final6 m c :=
  (Pipeline.withArrays_arr (cfgs 0).spec (by decide : Function.Injective (Pipeline.arrRef spec0)) c (V0 m c) _ 6).trans (arr6 m c)

/-- After the region the node features are as before it. -/
theorem mid_v104 (c : Dev nD) : mid m c (Proc.devRef .tc main_v104) = nodesOf m c :=
  (Pipeline.withArrays_of_ne _ c (V0 m c) _ main_v104 (by exact (by decide : ∀ w, Pipeline.arrRef spec0 w ≠ main_v104))).trans
    (V_v104 m c)

/-- After the region the first positions are the argument's. -/
theorem mid_arg16 (c : Dev nD) : mid m c (Proc.devRef .tc main_arg16) = m (c, Proc.devRef .tc main_arg16) :=
  (Pipeline.withArrays_arr (cfgs 0).spec (by decide : Function.Injective (Pipeline.arrRef spec0)) c (V0 m c) _ 0).trans
    (((dats m 0 c).arrAt_in 0 rfl _).trans ((A_eq m c 0).trans (V_main_arg16 m c)))

/-- After the region the second positions are the argument's. -/
theorem mid_arg17 (c : Dev nD) : mid m c (Proc.devRef .tc main_arg17) = m (c, Proc.devRef .tc main_arg17) :=
  (Pipeline.withArrays_arr (cfgs 0).spec (by decide : Function.Injective (Pipeline.arrRef spec0)) c (V0 m c) _ 1).trans
    (((dats m 0 c).arrAt_in 1 rfl _).trans ((A_eq m c 1).trans (V_main_arg17 m c)))

/-- The contents at the end of the launch. -/
abbrev fin (c : Dev nD) (b : Ref sig .tc) : Buf (Elt F) ((c : Thread nD τ).loc b) :=
  Pipeline.afterTail₀ cfgs (dats m) 0 (V0 m) [hostOps1, hostOps1_1, hostOps1_2, hostOps1_3, hostOps1_4] c b

/-- The first result: the mean of the node features at the first positions. -/
theorem fin_v120 (c : Dev nD) : fin m c main_v120 =
    shapeCast S8192 (meanAt (nodesOf m c) (m (c, Proc.devRef .tc main_arg16))) shapeCasts_S64x128_S8192 := by
  unfold fin
  rw [end_eq, after1_4_v120, after_of_writes_sub hostOps1_3 _ hostOps1_3_writes (r := main_v114) (by decide), after1_2_v114,
    after1_1_v111, after1_v110, after_of_writes_sub hostOps1 _ hostOps1_writes (r := main_v104) (by decide), mid_v104, mid_arg16]
  rfl

/-- The second result: the mean of the node features at the second positions. -/
theorem fin_v121 (c : Dev nD) : fin m c main_v121 =
    shapeCast S8192 (meanAt (nodesOf m c) (m (c, Proc.devRef .tc main_arg17))) shapeCasts_S64x128_S8192 := by
  unfold fin
  rw [end_eq, after1_4_v121, after1_3_v116, after1_2_v115,
    after_of_writes_sub hostOps1_2 _ hostOps1_2_writes (r := main_v104) (by decide),
    after_of_writes_sub hostOps1_1 _ hostOps1_1_writes (r := main_v104) (by decide),
    after_of_writes_sub hostOps1 _ hostOps1_writes (r := main_v104) (by decide),
    after_of_writes_sub hostOps1_1 _ hostOps1_1_writes (r := main_arg17) (by decide),
    after_of_writes_sub hostOps1 _ hostOps1_writes (r := main_arg17) (by decide), mid_v104, mid_arg17]
  rfl

/-- A buffer the first four of the last stretches leave alone is as the region left it. -/
theorem tail4 (c : Dev nD) (b : Ref sig .tc) (h0 : b ∉ hostOps1_W) (h1 : b ∉ hostOps1_1_W) (h2 : b ∉ hostOps1_2_W)
    (h3 : b ∉ hostOps1_3_W) :
    after hostOps1_3 (after hostOps1_2 (after hostOps1_1 (after hostOps1 (mid m c)))) (Proc.devRef .tc b)
      = mid m c (Proc.devRef .tc b) := by
  rw [after_of_writes_sub hostOps1_3 _ hostOps1_3_writes h3, after_of_writes_sub hostOps1_2 _ hostOps1_2_writes h2,
    after_of_writes_sub hostOps1_1 _ hostOps1_1_writes h1, after_of_writes_sub hostOps1 _ hostOps1_writes h0]

/-- The third result: the pooled hidden states at the first positions. -/
theorem fin_v122 (c : Dev nD) : fin m c main_v122 = shapeCast S8192 (final5 m c) shapeCasts_S64x128_S8192 := by
  unfold fin
  rw [end_eq, after1_4_v122, tail4 m c main_v109_0 (by decide) (by decide) (by decide) (by decide), mid_v109_0]

/-- The fourth result: the pooled hidden states at the second positions. -/
theorem fin_v123 (c : Dev nD) : fin m c main_v123 = shapeCast S8192 (final6 m c) shapeCasts_S64x128_S8192 := by
  unfold fin
  rw [end_eq, after1_4_v123, tail4 m c main_v109_1 (by decide) (by decide) (by decide) (by decide), mid_v109_1]

/-- Every execution of the kernel ends with the four results at these values. -/
theorem run_values (ρ : Dev nD → PrngReg) : θ_run defs (onTc (τ := τ) (main (F := F))) ⟨m, fun _ => 0, ρ⟩ (fun r => ∀ c : Dev nD,
      r.2.mem ((c : Thread nD τ).loc main_v120) =
        shapeCast S8192 (meanAt (nodesOf m c) (m (c, Proc.devRef .tc main_arg16))) shapeCasts_S64x128_S8192
      ∧ r.2.mem ((c : Thread nD τ).loc main_v121) =
        shapeCast S8192 (meanAt (nodesOf m c) (m (c, Proc.devRef .tc main_arg17))) shapeCasts_S64x128_S8192
      ∧ r.2.mem ((c : Thread nD τ).loc main_v122) = shapeCast S8192 (final5 m c) shapeCasts_S64x128_S8192
      ∧ r.2.mem ((c : Thread nD τ).loc main_v123) = shapeCast S8192 (final6 m c) shapeCasts_S64x128_S8192) :=
  (θ_run defs _ _).mono (fun _ h c =>
    ⟨((h c).2 main_v120 (Pipeline.mem_restRefs_of main_v120 (by decide) (by decide))).trans (fin_v120 m c),
     ((h c).2 main_v121 (Pipeline.mem_restRefs_of main_v121 (by decide) (by decide))).trans (fin_v121 m c),
     ((h c).2 main_v122 (Pipeline.mem_restRefs_of main_v122 (by decide) (by decide))).trans (fin_v122 m c),
     ((h c).2 main_v123 (Pipeline.mem_restRefs_of main_v123 (by decide) (by decide))).trans (fin_v123 m c)⟩) (run_main m ρ)

end Region

end Cert.KernelIdeal.Val

end
-- ==== Proof.RefStepRun.lean ====
/- The reference's loop, read as an iteration. `Gen.ReferenceIdeal.Step` names the values of one trip; here the reference's
   buffers are shown to hold those values trip after trip, and `run_iter` concludes what the four results are once the loop
   has run: functions of the 512th iterate of `step` from `init`. The module follows the generated module of the same
   content, `Gen.ReferenceIdeal.StepRun`, which is not imported; the one lemma that differs is `step_8`. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v4_6) = s.main_v4_6
  f_7 : V0 (Proc.devRef .tc main_v4_7) = s.main_v4_7
  f_8 : V0 (Proc.devRef .tc main_v4_8) = s.main_v4_8
  f_0 : V0 (Proc.devRef .tc main_v4_0) = s.main_v4_0
  f_1 : V0 (Proc.devRef .tc main_v4_1) = s.main_v4_1
  f_2 : V0 (Proc.devRef .tc main_v4_2) = s.main_v4_2
  f_3 : V0 (Proc.devRef .tc main_v4_3) = s.main_v4_3
  f_4 : V0 (Proc.devRef .tc main_v4_4) = s.main_v4_4
  n_5 : V0 (Proc.devRef .tc main_v4_5) = constantI S_ 32 (BitVec.ofNat 32 j)

variable {V0 s j}

set_option maxRecDepth 8192 in
/-- Operation 0 of the loop's body computes value 0 of the step. -/
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
/-- Operation 1 of the loop's body computes value 1 of the step. -/
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
/-- Operation 2 of the loop's body computes value 2 of the step. -/
theorem al_2 (h : Holds V0 s j) : (Host.dynamicSlice S1x64x128 (V0 (Proc.devRef .tc main_v4_0)) (fun k => (((![V0 (Proc.devRef .tc main_v4_5), constantI S_ 32 0#32, constantI S_ 32 0#32] : Fin 3 → (⟨S_, .i32⟩ : BufTy).Contents (Elt F))) k (Shape.Idx.first h_S_)).toInt) sliceFits_S512x64x128_S1x64x128 : (Proc.devRef .tc main_while0b_call0_v0 : DevRef τ sig).ty.Contents (Elt F)) = Cert.ReferenceIdeal.Step.b2 j s := by
  unfold Cert.ReferenceIdeal.Step.b2
  rw [← al_0 h, ← al_1 h, h.f_0, h.n_5]
  try rfl
set_option maxRecDepth 8192 in
/-- Operation 3 of the loop's body computes value 3 of the step. -/
theorem al_3 (h : Holds V0 s j) : (shapeCast S64x128 (Host.dynamicSlice S1x64x128 (V0 (Proc.devRef .tc main_v4_0)) (fun k => (((![V0 (Proc.devRef .tc main_v4_5), constantI S_ 32 0#32, constantI S_ 32 0#32] : Fin 3 → (⟨S_, .i32⟩ : BufTy).Contents (Elt F))) k (Shape.Idx.first h_S_)).toInt) sliceFits_S512x64x128_S1x64x128) shapeCasts_S1x64x128_S64x128 : (Proc.devRef .tc main_while0b_v139 : DevRef τ sig).ty.Contents (Elt F)) = Cert.ReferenceIdeal.Step.b3 j s := by
  unfold Cert.ReferenceIdeal.Step.b3
  rw [← al_2 h]
  try rfl
set_option maxRecDepth 8192 in
/-- Operation 4 of the loop's body computes value 4 of the step. -/
theorem al_4 (h : Holds V0 s j) : (Host.dotGeneral dot_S64x128_S128x512_S64x512_1_0_0_1_n_n none (shapeCast S64x128 (Host.dynamicSlice S1x64x128 (V0 (Proc.devRef .tc main_v4_0)) (fun k => (((![V0 (Proc.devRef .tc main_v4_5), constantI S_ 32 0#32, constantI S_ 32 0#32] : Fin 3 → (⟨S_, .i32⟩ : BufTy).Contents (Elt F))) k (Shape.Idx.first h_S_)).toInt) sliceFits_S512x64x128_S1x64x128) shapeCasts_S1x64x128_S64x128) (V0 (Proc.devRef .tc main_v4_1)) : (Proc.devRef .tc main_while0b_v140 : DevRef τ sig).ty.Contents (Elt F)) = Cert.ReferenceIdeal.Step.b4 j s := by
  unfold Cert.ReferenceIdeal.Step.b4
  rw [← al_3 h, h.f_1]
  try rfl
set_option maxRecDepth 8192 in
/-- Operation 5 of the loop's body computes value 5 of the step. -/
theorem al_5 (h : Holds V0 s j) : (Host.dotGeneral dot_S64x128_S128x512_S64x512_1_0_0_1_n_n none (V0 (Proc.devRef .tc main_v4_6)) (V0 (Proc.devRef .tc main_v4_2)) : (Proc.devRef .tc main_while0b_v141 : DevRef τ sig).ty.Contents (Elt F)) = Cert.ReferenceIdeal.Step.b5 j s := by
  unfold Cert.ReferenceIdeal.Step.b5
  rw [h.f_6, h.f_2]
  try rfl
set_option maxRecDepth 8192 in
/-- Operation 6 of the loop's body computes value 6 of the step. -/
theorem al_6 (h : Holds V0 s j) : (addf (Host.dotGeneral dot_S64x128_S128x512_S64x512_1_0_0_1_n_n none (shapeCast S64x128 (Host.dynamicSlice S1x64x128 (V0 (Proc.devRef .tc main_v4_0)) (fun k => (((![V0 (Proc.devRef .tc main_v4_5), constantI S_ 32 0#32, constantI S_ 32 0#32] : Fin 3 → (⟨S_, .i32⟩ : BufTy).Contents (Elt F))) k (Shape.Idx.first h_S_)).toInt) sliceFits_S512x64x128_S1x64x128) shapeCasts_S1x64x128_S64x128) (V0 (Proc.devRef .tc main_v4_1))) (Host.dotGeneral dot_S64x128_S128x512_S64x512_1_0_0_1_n_n none (V0 (Proc.devRef .tc main_v4_6)) (V0 (Proc.devRef .tc main_v4_2))) : (Proc.devRef .tc main_while0b_v142 : DevRef τ sig).ty.Contents (Elt F)) = Cert.ReferenceIdeal.Step.b6 j s := by
  unfold Cert.ReferenceIdeal.Step.b6
  rw [← al_4 h, ← al_5 h]
  try rfl
set_option maxRecDepth 8192 in
/-- Operation 7 of the loop's body computes value 7 of the step. -/
theorem al_7 (h : Holds V0 s j) : (broadcastInDim S1x512 ![1] bcast_S512_S1x512_1 (V0 (Proc.devRef .tc main_v4_3)) : (Proc.devRef .tc main_while0b_v143 : DevRef τ sig).ty.Contents (Elt F)) = Cert.ReferenceIdeal.Step.b7 j s := by
  unfold Cert.ReferenceIdeal.Step.b7
  rw [h.f_3]
  try rfl
set_option maxRecDepth 8192 in
/-- Operation 8 of the loop's body computes value 8 of the step. -/
theorem al_8 (h : Holds V0 s j) : (broadcastInDim S64x512 ![0, 1] bcast_S1x512_S64x512_0_1 (broadcastInDim S1x512 ![1] bcast_S512_S1x512_1 (V0 (Proc.devRef .tc main_v4_3))) : (Proc.devRef .tc main_while0b_v144 : DevRef τ sig).ty.Contents (Elt F)) = Cert.ReferenceIdeal.Step.b8 j s := by
  unfold Cert.ReferenceIdeal.Step.b8
  rw [← al_7 h]
  try rfl
set_option maxRecDepth 8192 in
/-- Operation 9 of the loop's body computes value 9 of the step. -/
theorem al_9 (h : Holds V0 s j) : (addf (addf (Host.dotGeneral dot_S64x128_S128x512_S64x512_1_0_0_1_n_n none (shapeCast S64x128 (Host.dynamicSlice S1x64x128 (V0 (Proc.devRef .tc main_v4_0)) (fun k => (((![V0 (Proc.devRef .tc main_v4_5), constantI S_ 32 0#32, constantI S_ 32 0#32] : Fin 3 → (⟨S_, .i32⟩ : BufTy).Contents (Elt F))) k (Shape.Idx.first h_S_)).toInt) sliceFits_S512x64x128_S1x64x128) shapeCasts_S1x64x128_S64x128) (V0 (Proc.devRef .tc main_v4_1))) (Host.dotGeneral dot_S64x128_S128x512_S64x512_1_0_0_1_n_n none (V0 (Proc.devRef .tc main_v4_6)) (V0 (Proc.devRef .tc main_v4_2)))) (broadcastInDim S64x512 ![0, 1] bcast_S1x512_S64x512_0_1 (broadcastInDim S1x512 ![1] bcast_S512_S1x512_1 (V0 (Proc.devRef .tc main_v4_3)))) : (Proc.devRef .tc main_while0b_v145 : DevRef τ sig).ty.Contents (Elt F)) = Cert.ReferenceIdeal.Step.b9 j s := by
  unfold Cert.ReferenceIdeal.Step.b9
  rw [← al_6 h, ← al_8 h]
  try rfl
set_option maxRecDepth 8192 in
/-- Operation 10 of the loop's body computes value 10 of the step. -/
theorem al_10 (h : Holds V0 s j) : (broadcastInDim S1x512 ![1] bcast_S512_S1x512_1 (V0 (Proc.devRef .tc main_v4_4)) : (Proc.devRef .tc main_while0b_v146 : DevRef τ sig).ty.Contents (Elt F)) = Cert.ReferenceIdeal.Step.b10 j s := by
  unfold Cert.ReferenceIdeal.Step.b10
  rw [h.f_4]
  try rfl
set_option maxRecDepth 8192 in
/-- Operation 11 of the loop's body computes value 11 of the step. -/
theorem al_11 (h : Holds V0 s j) : (broadcastInDim S64x512 ![0, 1] bcast_S1x512_S64x512_0_1 (broadcastInDim S1x512 ![1] bcast_S512_S1x512_1 (V0 (Proc.devRef .tc main_v4_4))) : (Proc.devRef .tc main_while0b_v147 : DevRef τ sig).ty.Contents (Elt F)) = Cert.ReferenceIdeal.Step.b11 j s := by
  unfold Cert.ReferenceIdeal.Step.b11
  rw [← al_10 h]
  try rfl
set_option maxRecDepth 8192 in
/-- Operation 12 of the loop's body computes value 12 of the step. -/
theorem al_12 (h : Holds V0 s j) : (res_main_while0b_v148 V0 : (Proc.devRef .tc main_while0b_v148 : DevRef τ sig).ty.Contents (Elt F)) = Cert.ReferenceIdeal.Step.b12 j s := by
  unfold res_main_while0b_v148 Cert.ReferenceIdeal.Step.b12
  rw [← al_9 h, ← al_11 h]
  try rfl
set_option maxRecDepth 8192 in
/-- Operation 13 of the loop's body computes value 13 of the step. -/
theorem al_13 (h : Holds V0 s j) : (extractStridedSlice S64x128 ![0, 0] (res_main_while0b_v148 V0) slices_S64x512_S64x128_0_0 : (Proc.devRef .tc main_while0b_v149 : DevRef τ sig).ty.Contents (Elt F)) = Cert.ReferenceIdeal.Step.b13 j s := by
  unfold Cert.ReferenceIdeal.Step.b13
  rw [← al_12 h]
  try rfl
set_option maxRecDepth 8192 in
/-- Operation 14 of the loop's body computes value 14 of the step. -/
theorem al_14 (h : Holds V0 s j) : (extractStridedSlice S64x128 ![0, 128] (res_main_while0b_v148 V0) slices_S64x512_S64x128_0_128 : (Proc.devRef .tc main_while0b_v150 : DevRef τ sig).ty.Contents (Elt F)) = Cert.ReferenceIdeal.Step.b14 j s := by
  unfold Cert.ReferenceIdeal.Step.b14
  rw [← al_12 h]
  try rfl
set_option maxRecDepth 8192 in
/-- Operation 15 of the loop's body computes value 15 of the step. -/
theorem al_15 (h : Holds V0 s j) : (extractStridedSlice S64x128 ![0, 256] (res_main_while0b_v148 V0) slices_S64x512_S64x128_0_256 : (Proc.devRef .tc main_while0b_v151 : DevRef τ sig).ty.Contents (Elt F)) = Cert.ReferenceIdeal.Step.b15 j s := by
  unfold Cert.ReferenceIdeal.Step.b15
  rw [← al_12 h]
  try rfl
set_option maxRecDepth 8192 in
/-- Operation 16 of the loop's body computes value 16 of the step. -/
theorem al_16 (h : Holds V0 s j) : (extractStridedSlice S64x128 ![0, 384] (res_main_while0b_v148 V0) slices_S64x512_S64x128_0_384 : (Proc.devRef .tc main_while0b_v152 : DevRef τ sig).ty.Contents (Elt F)) = Cert.ReferenceIdeal.Step.b16 j s := by
  unfold Cert.ReferenceIdeal.Step.b16
  rw [← al_12 h]
  try rfl
set_option maxRecDepth 8192 in
/-- Operation 17 of the loop's body computes value 17 of the step. -/
theorem al_17 (h : Holds V0 s j) : (Host.negf (extractStridedSlice S64x128 ![0, 128] (res_main_while0b_v148 V0) slices_S64x512_S64x128_0_128) : (Proc.devRef .tc main_while0b_v153 : DevRef τ sig).ty.Contents (Elt F)) = Cert.ReferenceIdeal.Step.b17 j s := by
  unfold Cert.ReferenceIdeal.Step.b17
  rw [← al_14 h]
  try rfl
set_option maxRecDepth 8192 in
/-- Operation 18 of the loop's body computes value 18 of the step. -/
theorem al_18 (h : Holds V0 s j) : (Host.exp (Host.negf (extractStridedSlice S64x128 ![0, 128] (res_main_while0b_v148 V0) slices_S64x512_S64x128_0_128)) : (Proc.devRef .tc main_while0b_v154 : DevRef τ sig).ty.Contents (Elt F)) = Cert.ReferenceIdeal.Step.b18 j s := by
  unfold Cert.ReferenceIdeal.Step.b18
  rw [← al_17 h]
  try rfl
set_option maxRecDepth 8192 in
/-- Operation 19 of the loop's body computes value 19 of the step. -/
theorem al_19 (h : Holds V0 s j) : (constant S_ .f32 0x3F800000#32 : (Proc.devRef .tc main_while0b_cst_44 : DevRef τ sig).ty.Contents (Elt F)) = Cert.ReferenceIdeal.Step.b19 j s := by
  unfold Cert.ReferenceIdeal.Step.b19
  rfl
set_option maxRecDepth 8192 in
/-- Operation 20 of the loop's body computes value 20 of the step. -/
theorem al_20 (h : Holds V0 s j) : (broadcastInDim S64x128 ![] bcast_S_S64x128 (constant S_ .f32 0x3F800000#32) : (Proc.devRef .tc main_while0b_v155 : DevRef τ sig).ty.Contents (Elt F)) = Cert.ReferenceIdeal.Step.b20 j s := by
  unfold Cert.ReferenceIdeal.Step.b20
  rw [← al_19 h]
  try rfl
set_option maxRecDepth 8192 in
/-- Operation 21 of the loop's body computes value 21 of the step. -/
theorem al_21 (h : Holds V0 s j) : (addf (broadcastInDim S64x128 ![] bcast_S_S64x128 (constant S_ .f32 0x3F800000#32)) (Host.exp (Host.negf (extractStridedSlice S64x128 ![0, 128] (res_main_while0b_v148 V0) slices_S64x512_S64x128_0_128))) : (Proc.devRef .tc main_while0b_v156 : DevRef τ sig).ty.Contents (Elt F)) = Cert.ReferenceIdeal.Step.b21 j s := by
  unfold Cert.ReferenceIdeal.Step.b21
  rw [← al_20 h, ← al_18 h]
  try rfl
set_option maxRecDepth 8192 in
/-- Operation 22 of the loop's body computes value 22 of the step. -/
theorem al_22 (h : Holds V0 s j) : (constant S_ .f32 0x3F800000#32 : (Proc.devRef .tc main_while0b_cst_45 : DevRef τ sig).ty.Contents (Elt F)) = Cert.ReferenceIdeal.Step.b22 j s := by
  unfold Cert.ReferenceIdeal.Step.b22
  rfl
set_option maxRecDepth 8192 in
/-- Operation 23 of the loop's body computes value 23 of the step. -/
theorem al_23 (h : Holds V0 s j) : (broadcastInDim S64x128 ![] bcast_S_S64x128 (constant S_ .f32 0x3F800000#32) : (Proc.devRef .tc main_while0b_v157 : DevRef τ sig).ty.Contents (Elt F)) = Cert.ReferenceIdeal.Step.b23 j s := by
  unfold Cert.ReferenceIdeal.Step.b23
  rw [← al_22 h]
  try rfl
set_option maxRecDepth 8192 in
/-- Operation 24 of the loop's body computes value 24 of the step. -/
theorem al_24 (h : Holds V0 s j) : (Host.divf (broadcastInDim S64x128 ![] bcast_S_S64x128 (constant S_ .f32 0x3F800000#32)) (addf (broadcastInDim S64x128 ![] bcast_S_S64x128 (constant S_ .f32 0x3F800000#32)) (Host.exp (Host.negf (extractStridedSlice S64x128 ![0, 128] (res_main_while0b_v148 V0) slices_S64x512_S64x128_0_128)))) : (Proc.devRef .tc main_while0b_v158 : DevRef τ sig).ty.Contents (Elt F)) = Cert.ReferenceIdeal.Step.b24 j s := by
  unfold Cert.ReferenceIdeal.Step.b24
  rw [← al_23 h, ← al_21 h]
  try rfl
set_option maxRecDepth 8192 in
/-- Operation 25 of the loop's body computes value 25 of the step. -/
theorem al_25 (h : Holds V0 s j) : (mulf (Host.divf (broadcastInDim S64x128 ![] bcast_S_S64x128 (constant S_ .f32 0x3F800000#32)) (addf (broadcastInDim S64x128 ![] bcast_S_S64x128 (constant S_ .f32 0x3F800000#32)) (Host.exp (Host.negf (extractStridedSlice S64x128 ![0, 128] (res_main_while0b_v148 V0) slices_S64x512_S64x128_0_128))))) (V0 (Proc.devRef .tc main_v4_7)) : (Proc.devRef .tc main_while0b_v159 : DevRef τ sig).ty.Contents (Elt F)) = Cert.ReferenceIdeal.Step.b25 j s := by
  unfold Cert.ReferenceIdeal.Step.b25
  rw [← al_24 h, h.f_7]
  try rfl
set_option maxRecDepth 8192 in
/-- Operation 26 of the loop's body computes value 26 of the step. -/
theorem al_26 (h : Holds V0 s j) : (Host.negf (extractStridedSlice S64x128 ![0, 0] (res_main_while0b_v148 V0) slices_S64x512_S64x128_0_0) : (Proc.devRef .tc main_while0b_v160 : DevRef τ sig).ty.Contents (Elt F)) = Cert.ReferenceIdeal.Step.b26 j s := by
  unfold Cert.ReferenceIdeal.Step.b26
  rw [← al_13 h]
  try rfl
set_option maxRecDepth 8192 in
/-- Operation 27 of the loop's body computes value 27 of the step. -/
theorem al_27 (h : Holds V0 s j) : (Host.exp (Host.negf (extractStridedSlice S64x128 ![0, 0] (res_main_while0b_v148 V0) slices_S64x512_S64x128_0_0)) : (Proc.devRef .tc main_while0b_v161 : DevRef τ sig).ty.Contents (Elt F)) = Cert.ReferenceIdeal.Step.b27 j s := by
  unfold Cert.ReferenceIdeal.Step.b27
  rw [← al_26 h]
  try rfl
set_option maxRecDepth 8192 in
/-- Operation 28 of the loop's body computes value 28 of the step. -/
theorem al_28 (h : Holds V0 s j) : (constant S_ .f32 0x3F800000#32 : (Proc.devRef .tc main_while0b_cst_46 : DevRef τ sig).ty.Contents (Elt F)) = Cert.ReferenceIdeal.Step.b28 j s := by
  unfold Cert.ReferenceIdeal.Step.b28
  rfl
set_option maxRecDepth 8192 in
/-- Operation 29 of the loop's body computes value 29 of the step. -/
theorem al_29 (h : Holds V0 s j) : (broadcastInDim S64x128 ![] bcast_S_S64x128 (constant S_ .f32 0x3F800000#32) : (Proc.devRef .tc main_while0b_v162 : DevRef τ sig).ty.Contents (Elt F)) = Cert.ReferenceIdeal.Step.b29 j s := by
  unfold Cert.ReferenceIdeal.Step.b29
  rw [← al_28 h]
  try rfl
set_option maxRecDepth 8192 in
/-- Operation 30 of the loop's body computes value 30 of the step. -/
theorem al_30 (h : Holds V0 s j) : (addf (broadcastInDim S64x128 ![] bcast_S_S64x128 (constant S_ .f32 0x3F800000#32)) (Host.exp (Host.negf (extractStridedSlice S64x128 ![0, 0] (res_main_while0b_v148 V0) slices_S64x512_S64x128_0_0))) : (Proc.devRef .tc main_while0b_v163 : DevRef τ sig).ty.Contents (Elt F)) = Cert.ReferenceIdeal.Step.b30 j s := by
  unfold Cert.ReferenceIdeal.Step.b30
  rw [← al_29 h, ← al_27 h]
  try rfl
set_option maxRecDepth 8192 in
/-- Operation 31 of the loop's body computes value 31 of the step. -/
theorem al_31 (h : Holds V0 s j) : (constant S_ .f32 0x3F800000#32 : (Proc.devRef .tc main_while0b_cst_47 : DevRef τ sig).ty.Contents (Elt F)) = Cert.ReferenceIdeal.Step.b31 j s := by
  unfold Cert.ReferenceIdeal.Step.b31
  rfl
set_option maxRecDepth 8192 in
/-- Operation 32 of the loop's body computes value 32 of the step. -/
theorem al_32 (h : Holds V0 s j) : (broadcastInDim S64x128 ![] bcast_S_S64x128 (constant S_ .f32 0x3F800000#32) : (Proc.devRef .tc main_while0b_v164 : DevRef τ sig).ty.Contents (Elt F)) = Cert.ReferenceIdeal.Step.b32 j s := by
  unfold Cert.ReferenceIdeal.Step.b32
  rw [← al_31 h]
  try rfl
set_option maxRecDepth 8192 in
/-- Operation 33 of the loop's body computes value 33 of the step. -/
theorem al_33 (h : Holds V0 s j) : (Host.divf (broadcastInDim S64x128 ![] bcast_S_S64x128 (constant S_ .f32 0x3F800000#32)) (addf (broadcastInDim S64x128 ![] bcast_S_S64x128 (constant S_ .f32 0x3F800000#32)) (Host.exp (Host.negf (extractStridedSlice S64x128 ![0, 0] (res_main_while0b_v148 V0) slices_S64x512_S64x128_0_0)))) : (Proc.devRef .tc main_while0b_v165 : DevRef τ sig).ty.Contents (Elt F)) = Cert.ReferenceIdeal.Step.b33 j s := by
  unfold Cert.ReferenceIdeal.Step.b33
  rw [← al_32 h, ← al_30 h]
  try rfl
set_option maxRecDepth 8192 in
/-- Operation 34 of the loop's body computes value 34 of the step. -/
theorem al_34 (h : Holds V0 s j) : (Host.tanh (extractStridedSlice S64x128 ![0, 256] (res_main_while0b_v148 V0) slices_S64x512_S64x128_0_256) : (Proc.devRef .tc main_while0b_v166 : DevRef τ sig).ty.Contents (Elt F)) = Cert.ReferenceIdeal.Step.b34 j s := by
  unfold Cert.ReferenceIdeal.Step.b34
  rw [← al_15 h]
  try rfl
set_option maxRecDepth 8192 in
/-- Operation 35 of the loop's body computes value 35 of the step. -/
theorem al_35 (h : Holds V0 s j) : (mulf (Host.divf (broadcastInDim S64x128 ![] bcast_S_S64x128 (constant S_ .f32 0x3F800000#32)) (addf (broadcastInDim S64x128 ![] bcast_S_S64x128 (constant S_ .f32 0x3F800000#32)) (Host.exp (Host.negf (extractStridedSlice S64x128 ![0, 0] (res_main_while0b_v148 V0) slices_S64x512_S64x128_0_0))))) (Host.tanh (extractStridedSlice S64x128 ![0, 256] (res_main_while0b_v148 V0) slices_S64x512_S64x128_0_256)) : (Proc.devRef .tc main_while0b_v167 : DevRef τ sig).ty.Contents (Elt F)) = Cert.ReferenceIdeal.Step.b35 j s := by
  unfold Cert.ReferenceIdeal.Step.b35
  rw [← al_33 h, ← al_34 h]
  try rfl
set_option maxRecDepth 8192 in
/-- Operation 36 of the loop's body computes value 36 of the step. -/
theorem al_36 (h : Holds V0 s j) : (res_main_while0b_v168 V0 : (Proc.devRef .tc main_while0b_v168 : DevRef τ sig).ty.Contents (Elt F)) = Cert.ReferenceIdeal.Step.b36 j s := by
  unfold res_main_while0b_v168 Cert.ReferenceIdeal.Step.b36
  rw [← al_25 h, ← al_35 h]
  try rfl
set_option maxRecDepth 8192 in
/-- Operation 37 of the loop's body computes value 37 of the step. -/
theorem al_37 (h : Holds V0 s j) : (Host.negf (extractStridedSlice S64x128 ![0, 384] (res_main_while0b_v148 V0) slices_S64x512_S64x128_0_384) : (Proc.devRef .tc main_while0b_v169 : DevRef τ sig).ty.Contents (Elt F)) = Cert.ReferenceIdeal.Step.b37 j s := by
  unfold Cert.ReferenceIdeal.Step.b37
  rw [← al_16 h]
  try rfl
set_option maxRecDepth 8192 in
/-- Operation 38 of the loop's body computes value 38 of the step. -/
theorem al_38 (h : Holds V0 s j) : (Host.exp (Host.negf (extractStridedSlice S64x128 ![0, 384] (res_main_while0b_v148 V0) slices_S64x512_S64x128_0_384)) : (Proc.devRef .tc main_while0b_v170 : DevRef τ sig).ty.Contents (Elt F)) = Cert.ReferenceIdeal.Step.b38 j s := by
  unfold Cert.ReferenceIdeal.Step.b38
  rw [← al_37 h]
  try rfl
set_option maxRecDepth 8192 in
/-- Operation 39 of the loop's body computes value 39 of the step. -/
theorem al_39 (h : Holds V0 s j) : (constant S_ .f32 0x3F800000#32 : (Proc.devRef .tc main_while0b_cst_48 : DevRef τ sig).ty.Contents (Elt F)) = Cert.ReferenceIdeal.Step.b39 j s := by
  unfold Cert.ReferenceIdeal.Step.b39
  rfl
set_option maxRecDepth 8192 in
/-- Operation 40 of the loop's body computes value 40 of the step. -/
theorem al_40 (h : Holds V0 s j) : (broadcastInDim S64x128 ![] bcast_S_S64x128 (constant S_ .f32 0x3F800000#32) : (Proc.devRef .tc main_while0b_v171 : DevRef τ sig).ty.Contents (Elt F)) = Cert.ReferenceIdeal.Step.b40 j s := by
  unfold Cert.ReferenceIdeal.Step.b40
  rw [← al_39 h]
  try rfl
set_option maxRecDepth 8192 in
/-- Operation 41 of the loop's body computes value 41 of the step. -/
theorem al_41 (h : Holds V0 s j) : (addf (broadcastInDim S64x128 ![] bcast_S_S64x128 (constant S_ .f32 0x3F800000#32)) (Host.exp (Host.negf (extractStridedSlice S64x128 ![0, 384] (res_main_while0b_v148 V0) slices_S64x512_S64x128_0_384))) : (Proc.devRef .tc main_while0b_v172 : DevRef τ sig).ty.Contents (Elt F)) = Cert.ReferenceIdeal.Step.b41 j s := by
  unfold Cert.ReferenceIdeal.Step.b41
  rw [← al_40 h, ← al_38 h]
  try rfl
set_option maxRecDepth 8192 in
/-- Operation 42 of the loop's body computes value 42 of the step. -/
theorem al_42 (h : Holds V0 s j) : (constant S_ .f32 0x3F800000#32 : (Proc.devRef .tc main_while0b_cst_49 : DevRef τ sig).ty.Contents (Elt F)) = Cert.ReferenceIdeal.Step.b42 j s := by
  unfold Cert.ReferenceIdeal.Step.b42
  rfl
set_option maxRecDepth 8192 in
/-- Operation 43 of the loop's body computes value 43 of the step. -/
theorem al_43 (h : Holds V0 s j) : (broadcastInDim S64x128 ![] bcast_S_S64x128 (constant S_ .f32 0x3F800000#32) : (Proc.devRef .tc main_while0b_v173 : DevRef τ sig).ty.Contents (Elt F)) = Cert.ReferenceIdeal.Step.b43 j s := by
  unfold Cert.ReferenceIdeal.Step.b43
  rw [← al_42 h]
  try rfl
set_option maxRecDepth 8192 in
/-- Operation 44 of the loop's body computes value 44 of the step. -/
theorem al_44 (h : Holds V0 s j) : (Host.divf (broadcastInDim S64x128 ![] bcast_S_S64x128 (constant S_ .f32 0x3F800000#32)) (addf (broadcastInDim S64x128 ![] bcast_S_S64x128 (constant S_ .f32 0x3F800000#32)) (Host.exp (Host.negf (extractStridedSlice S64x128 ![0, 384] (res_main_while0b_v148 V0) slices_S64x512_S64x128_0_384)))) : (Proc.devRef .tc main_while0b_v174 : DevRef τ sig).ty.Contents (Elt F)) = Cert.ReferenceIdeal.Step.b44 j s := by
  unfold Cert.ReferenceIdeal.Step.b44
  rw [← al_43 h, ← al_41 h]
  try rfl
set_option maxRecDepth 8192 in
/-- Operation 45 of the loop's body computes value 45 of the step. -/
theorem al_45 (h : Holds V0 s j) : (Host.tanh (res_main_while0b_v168 V0) : (Proc.devRef .tc main_while0b_v175 : DevRef τ sig).ty.Contents (Elt F)) = Cert.ReferenceIdeal.Step.b45 j s := by
  unfold Cert.ReferenceIdeal.Step.b45
  rw [← al_36 h]
  try rfl
set_option maxRecDepth 8192 in
/-- Operation 46 of the loop's body computes value 46 of the step. -/
theorem al_46 (h : Holds V0 s j) : (res_main_while0b_v176 V0 : (Proc.devRef .tc main_while0b_v176 : DevRef τ sig).ty.Contents (Elt F)) = Cert.ReferenceIdeal.Step.b46 j s := by
  unfold res_main_while0b_v176 Cert.ReferenceIdeal.Step.b46
  rw [← al_44 h, ← al_45 h]
  try rfl
set_option maxRecDepth 8192 in
/-- Operation 47 of the loop's body computes value 47 of the step. -/
theorem al_47 (h : Holds V0 s j) : (broadcastInDim S1x64x128 ![1, 2] bcast_S64x128_S1x64x128_1_2 (res_main_while0b_v176 V0) : (Proc.devRef .tc main_while0b_call1_v0 : DevRef τ sig).ty.Contents (Elt F)) = Cert.ReferenceIdeal.Step.b47 j s := by
  unfold Cert.ReferenceIdeal.Step.b47
  rw [← al_46 h]
  try rfl
set_option maxRecDepth 8192 in
/-- Operation 48 of the loop's body computes value 48 of the step. -/
theorem al_48 (h : Holds V0 s j) : (constantI S_ 32 0#32 : (Proc.devRef .tc main_while0b_call1_c : DevRef τ sig).ty.Contents (Elt F)) = Cert.ReferenceIdeal.Step.b48 j s := by
  unfold Cert.ReferenceIdeal.Step.b48
  rfl
set_option maxRecDepth 8192 in
/-- Operation 49 of the loop's body computes value 49 of the step. -/
theorem al_49 (h : Holds V0 s j) : (constantI S_ 32 0#32 : (Proc.devRef .tc main_while0b_call1_c_0 : DevRef τ sig).ty.Contents (Elt F)) = Cert.ReferenceIdeal.Step.b49 j s := by
  unfold Cert.ReferenceIdeal.Step.b49
  rfl
set_option maxRecDepth 8192 in
/-- Operation 50 of the loop's body computes value 50 of the step. -/
theorem al_50 (h : Holds V0 s j) : (Host.dynamicUpdateSlice (V0 (Proc.devRef .tc main_v4_8)) (broadcastInDim S1x64x128 ![1, 2] bcast_S64x128_S1x64x128_1_2 (res_main_while0b_v176 V0)) (fun k => (((![V0 (Proc.devRef .tc main_v4_5), constantI S_ 32 0#32, constantI S_ 32 0#32] : Fin 3 → (⟨S_, .i32⟩ : BufTy).Contents (Elt F))) k (Shape.Idx.first h_S_)).toInt) updateFits_S512x64x128_S1x64x128 : (Proc.devRef .tc main_while0b_v177 : DevRef τ sig).ty.Contents (Elt F)) = Cert.ReferenceIdeal.Step.b50 j s := by
  unfold Cert.ReferenceIdeal.Step.b50
  rw [← al_47 h, ← al_48 h, ← al_49 h, h.f_8, h.n_5]
  try rfl

/-! One trip's step of the carried values is `step`, field by field; a counter steps to the next number. -/

/-- The loop's body leaves the step's hidden state. -/
theorem step_6 (h : Holds V0 s j) : step_main_v4_6 V0 = (step j s).main_v4_6 := by
  unfold step_main_v4_6 Cert.ReferenceIdeal.Step.step
  show id (res_main_while0b_v176 V0) = _
  rw [al_46 h]
  try rfl
/-- The loop's body leaves the step's cell state. -/
theorem step_7 (h : Holds V0 s j) : step_main_v4_7 V0 = (step j s).main_v4_7 := by
  unfold step_main_v4_7 Cert.ReferenceIdeal.Step.step
  show id (res_main_while0b_v168 V0) = _
  rw [al_36 h]
  try rfl
/-- The loop's body leaves the step's stack of hidden states. -/
theorem step_8 (h : Holds V0 s j) : step_main_v4_8 V0 = (step j s).main_v4_8 := by
  unfold step_main_v4_8 Cert.ReferenceIdeal.Step.step
  show id (Host.dynamicUpdateSlice (V0 (Proc.devRef .tc main_v4_8)) (broadcastInDim S1x64x128 ![1, 2] bcast_S64x128_S1x64x128_1_2 (res_main_while0b_v176 V0)) (fun k => (((![V0 (Proc.devRef .tc main_v4_5), constantI S_ 32 0#32, constantI S_ 32 0#32] : Fin 3 → (⟨S_, .i32⟩ : BufTy).Contents (Elt F))) k (Shape.Idx.first h_S_)).toInt) updateFits_S512x64x128_S1x64x128) = _
  exact al_50 h
/-- The loop's body leaves the next step's number. -/
theorem step_5 (h : Holds V0 s j) : step_main_v4_5 V0 = constantI S_ 32 (BitVec.ofNat 32 (j + 1)) := by
  unfold step_main_v4_5
  rw [h.n_5]
  funext i
  show BitVec.ofNat 32 j + 1#32 = BitVec.ofNat 32 (j + 1)
  simp only [BitVec.ofNat_add]

set_option maxRecDepth 8192 in
/-- After the loop, `main_v135` is computed from the last state. -/
theorem out_main_v135_holds (h : Holds V0 s j) {x_main_arg0 : (⟨S32768x128, .f32⟩ : BufTy).Contents (Elt F)} (h_main_arg0 : V0 (Proc.devRef .tc main_arg0) = x_main_arg0) {x_main_arg2 : (⟨S128x128, .f32⟩ : BufTy).Contents (Elt F)} (h_main_arg2 : V0 (Proc.devRef .tc main_arg2) = x_main_arg2) {x_main_arg3 : (⟨S46x128, .f32⟩ : BufTy).Contents (Elt F)} (h_main_arg3 : V0 (Proc.devRef .tc main_arg3) = x_main_arg3) {x_main_arg4 : (⟨S128, .f32⟩ : BufTy).Contents (Elt F)} (h_main_arg4 : V0 (Proc.devRef .tc main_arg4) = x_main_arg4) {x_main_arg5 : (⟨S46, .f32⟩ : BufTy).Contents (Elt F)} (h_main_arg5 : V0 (Proc.devRef .tc main_arg5) = x_main_arg5) {x_main_arg6 : (⟨S128x128, .f32⟩ : BufTy).Contents (Elt F)} (h_main_arg6 : V0 (Proc.devRef .tc main_arg6) = x_main_arg6) {x_main_arg7 : (⟨S46x128, .f32⟩ : BufTy).Contents (Elt F)} (h_main_arg7 : V0 (Proc.devRef .tc main_arg7) = x_main_arg7) {x_main_arg8 : (⟨S128, .f32⟩ : BufTy).Contents (Elt F)} (h_main_arg8 : V0 (Proc.devRef .tc main_arg8) = x_main_arg8) {x_main_arg9 : (⟨S46, .f32⟩ : BufTy).Contents (Elt F)} (h_main_arg9 : V0 (Proc.devRef .tc main_arg9) = x_main_arg9) {x_main_arg14 : (⟨S2x393216, .i32⟩ : BufTy).Contents (Elt F)} (h_main_arg14 : V0 (Proc.devRef .tc main_arg14) = x_main_arg14) {x_main_arg15 : (⟨S393216, .i32⟩ : BufTy).Contents (Elt F)} (h_main_arg15 : V0 (Proc.devRef .tc main_arg15) = x_main_arg15) {x_main_arg16 : (⟨S64x4, .i32⟩ : BufTy).Contents (Elt F)} (h_main_arg16 : V0 (Proc.devRef .tc main_arg16) = x_main_arg16) : out_main_v135 V0 = Cert.ReferenceIdeal.Step.R_main_v135 s x_main_arg0 x_main_arg2 x_main_arg3 x_main_arg4 x_main_arg5 x_main_arg6 x_main_arg7 x_main_arg8 x_main_arg9 x_main_arg14 x_main_arg15 x_main_arg16 := by
  unfold out_main_v135 Cert.ReferenceIdeal.Step.R_main_v135
  rw [h_main_arg0, h_main_arg2, h_main_arg3, h_main_arg4, h_main_arg5, h_main_arg6, h_main_arg7, h_main_arg8, h_main_arg9, h_main_arg14, h_main_arg15, h_main_arg16]
  try rfl

set_option maxRecDepth 8192 in
/-- After the loop, `main_v136` is computed from the last state. -/
theorem out_main_v136_holds (h : Holds V0 s j) {x_main_arg0 : (⟨S32768x128, .f32⟩ : BufTy).Contents (Elt F)} (h_main_arg0 : V0 (Proc.devRef .tc main_arg0) = x_main_arg0) {x_main_arg2 : (⟨S128x128, .f32⟩ : BufTy).Contents (Elt F)} (h_main_arg2 : V0 (Proc.devRef .tc main_arg2) = x_main_arg2) {x_main_arg3 : (⟨S46x128, .f32⟩ : BufTy).Contents (Elt F)} (h_main_arg3 : V0 (Proc.devRef .tc main_arg3) = x_main_arg3) {x_main_arg4 : (⟨S128, .f32⟩ : BufTy).Contents (Elt F)} (h_main_arg4 : V0 (Proc.devRef .tc main_arg4) = x_main_arg4) {x_main_arg5 : (⟨S46, .f32⟩ : BufTy).Contents (Elt F)} (h_main_arg5 : V0 (Proc.devRef .tc main_arg5) = x_main_arg5) {x_main_arg6 : (⟨S128x128, .f32⟩ : BufTy).Contents (Elt F)} (h_main_arg6 : V0 (Proc.devRef .tc main_arg6) = x_main_arg6) {x_main_arg7 : (⟨S46x128, .f32⟩ : BufTy).Contents (Elt F)} (h_main_arg7 : V0 (Proc.devRef .tc main_arg7) = x_main_arg7) {x_main_arg8 : (⟨S128, .f32⟩ : BufTy).Contents (Elt F)} (h_main_arg8 : V0 (Proc.devRef .tc main_arg8) = x_main_arg8) {x_main_arg9 : (⟨S46, .f32⟩ : BufTy).Contents (Elt F)} (h_main_arg9 : V0 (Proc.devRef .tc main_arg9) = x_main_arg9) {x_main_arg14 : (⟨S2x393216, .i32⟩ : BufTy).Contents (Elt F)} (h_main_arg14 : V0 (Proc.devRef .tc main_arg14) = x_main_arg14) {x_main_arg15 : (⟨S393216, .i32⟩ : BufTy).Contents (Elt F)} (h_main_arg15 : V0 (Proc.devRef .tc main_arg15) = x_main_arg15) {x_main_arg17 : (⟨S64x4, .i32⟩ : BufTy).Contents (Elt F)} (h_main_arg17 : V0 (Proc.devRef .tc main_arg17) = x_main_arg17) : out_main_v136 V0 = Cert.ReferenceIdeal.Step.R_main_v136 s x_main_arg0 x_main_arg2 x_main_arg3 x_main_arg4 x_main_arg5 x_main_arg6 x_main_arg7 x_main_arg8 x_main_arg9 x_main_arg14 x_main_arg15 x_main_arg17 := by
  unfold out_main_v136 Cert.ReferenceIdeal.Step.R_main_v136
  rw [h_main_arg0, h_main_arg2, h_main_arg3, h_main_arg4, h_main_arg5, h_main_arg6, h_main_arg7, h_main_arg8, h_main_arg9, h_main_arg14, h_main_arg15, h_main_arg17]
  try rfl

set_option maxRecDepth 8192 in
/-- After the loop, `main_v137` is computed from the last state. -/
theorem out_main_v137_holds (h : Holds V0 s j) {x_main_arg16 : (⟨S64x4, .i32⟩ : BufTy).Contents (Elt F)} (h_main_arg16 : V0 (Proc.devRef .tc main_arg16) = x_main_arg16) : out_main_v137 V0 = Cert.ReferenceIdeal.Step.R_main_v137 s x_main_arg16 := by
  unfold out_main_v137 Cert.ReferenceIdeal.Step.R_main_v137
  rw [h.f_8, h_main_arg16]
  try rfl

set_option maxRecDepth 8192 in
/-- After the loop, `main_v138` is computed from the last state. -/
theorem out_main_v138_holds (h : Holds V0 s j) {x_main_arg17 : (⟨S64x4, .i32⟩ : BufTy).Contents (Elt F)} (h_main_arg17 : V0 (Proc.devRef .tc main_arg17) = x_main_arg17) : out_main_v138 V0 = Cert.ReferenceIdeal.Step.R_main_v138 s x_main_arg17 := by
  unfold out_main_v138 Cert.ReferenceIdeal.Step.R_main_v138
  rw [h.f_8, h_main_arg17]
  try rfl

/-- One trip keeps the valuation holding: `step` of the state, the same set-up values, the next number. -/
theorem holds_step (h : Holds V0 s j) : Holds (STEP V0) (step j s) (j + 1) where
  f_6 := (STEP_main_v4_6 V0).trans (step_6 h)
  f_7 := (STEP_main_v4_7 V0).trans (step_7 h)
  f_8 := (STEP_main_v4_8 V0).trans (step_8 h)
  n_5 := (STEP_main_v4_5 V0).trans (step_5 h)
  f_0 := (STEP_main_v4_0 V0).trans h.f_0
  f_1 := (STEP_main_v4_1 V0).trans h.f_1
  f_2 := (STEP_main_v4_2 V0).trans h.f_2
  f_3 := (STEP_main_v4_3 V0).trans h.f_3
  f_4 := (STEP_main_v4_4 V0).trans h.f_4

/-- The state the first trip starts from, of the memory the run starts from. -/
abbrev initState (m : (ℓ : Loc nD τ sig) → Buf (Elt F) ℓ) (c : Dev nD) : State F :=
  init (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg1))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 512 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v135) = Cert.ReferenceIdeal.Step.R_main_v135 (it c 512) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg16))
      ∧ r.2.mem ((c.tc : Thread nD τ).loc main_v136) = Cert.ReferenceIdeal.Step.R_main_v136 (it c 512) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg17))
      ∧ r.2.mem ((c.tc : Thread nD τ).loc main_v137) = Cert.ReferenceIdeal.Step.R_main_v137 (it c 512) (m ((c.tc : Thread nD τ).loc main_arg16))
      ∧ r.2.mem ((c.tc : Thread nD τ).loc main_v138) = Cert.ReferenceIdeal.Step.R_main_v138 (it c 512) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
    have hk := holds_iter m c (it c) (h0 c) (hs c) 512
    ⟨(h c).1.trans (out_main_v135_holds hk (iter_main_arg0 m c 512) (iter_main_arg2 m c 512) (iter_main_arg3 m c 512) (iter_main_arg4 m c 512) (iter_main_arg5 m c 512) (iter_main_arg6 m c 512) (iter_main_arg7 m c 512) (iter_main_arg8 m c 512) (iter_main_arg9 m c 512) (iter_main_arg14 m c 512) (iter_main_arg15 m c 512) (iter_main_arg16 m c 512)), (h c).2.1.trans (out_main_v136_holds hk (iter_main_arg0 m c 512) (iter_main_arg2 m c 512) (iter_main_arg3 m c 512) (iter_main_arg4 m c 512) (iter_main_arg5 m c 512) (iter_main_arg6 m c 512) (iter_main_arg7 m c 512) (iter_main_arg8 m c 512) (iter_main_arg9 m c 512) (iter_main_arg14 m c 512) (iter_main_arg15 m c 512) (iter_main_arg17 m c 512)), (h c).2.2.1.trans (out_main_v137_holds hk (iter_main_arg16 m c 512)), (h c).2.2.2.1.trans (out_main_v138_holds hk (iter_main_arg17 m c 512)), (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.1, (h c).2.2.2.2.2.2.2.2.2.2.2.2.2.2.2.2.2.2.2.2.2⟩) (Value.run m ρ)

end Cert.ReferenceIdeal.StepRun

end
-- ==== Proof.Nodes.lean ====
/-
  The node results: the reference's first two results are the kernel's host expression of the same arguments.
-/
module

public import proofs.«01_k».proof.Proof.Host
public import proofs.«01_k».proof.Proof.RefStepRun

@[expose] public section

noncomputable section

namespace Cert.Proof

open Idealize.ShloMosaic Idealize.ShloMosaic.TcCoe
open Cert.KernelIdeal (S32768x128 S128x128 S46x128 S128 S46 S2x393216 S393216 S64x4 S8192 S64x128)
open Cert.KernelIdeal.Gen Cert.KernelIdeal.Val

variable {F : FTy → Type} [FloatOps F]

section

variable (s : Cert.ReferenceIdeal.Step.State F) (x : Vec F S32768x128 .f32) (W₁ : Vec F S128x128 .f32) (b₁ : Vec F S46x128 .f32)
  (wg₁ : Vec F S128 .f32) (bg₁ : Vec F S46 .f32) (W₂ : Vec F S128x128 .f32) (b₂ : Vec F S46x128 .f32) (wg₂ : Vec F S128 .f32)
  (bg₂ : Vec F S46 .f32) (ei : Vec F S2x393216 .i32) (lab : Vec F S393216 .i32) (pos : Vec F S64x4 .i32)

/-- The reference's first result is the mean of the node features at the first positions. -/
theorem ref_v135 : Cert.ReferenceIdeal.Step.R_main_v135 s x W₁ b₁ wg₁ bg₁ W₂ b₂ wg₂ bg₂ ei lab pos =
    shapeCast S8192 (meanAt (nodes x W₁ b₁ wg₁ bg₁ W₂ b₂ wg₂ bg₂ ei lab) pos) Cert.KernelIdeal.Gen.facts.shapeCasts_S64x128_S8192 := by
  rfl

/-- The reference's second result is the mean of the node features at the second positions. -/
theorem ref_v136 : Cert.ReferenceIdeal.Step.R_main_v136 s x W₁ b₁ wg₁ bg₁ W₂ b₂ wg₂ bg₂ ei lab pos =
    shapeCast S8192 (meanAt (nodes x W₁ b₁ wg₁ bg₁ W₂ b₂ wg₂ bg₂ ei lab) pos) Cert.KernelIdeal.Gen.facts.shapeCasts_S64x128_S8192 := by
  rfl

end

end Cert.Proof

end
-- ==== Proof.Lstm.lean ====
/-
  One step of the recurrence, over extended reals: the kernel's step and the reference's are the same function.
-/
module

public import proofs.«01_k».proof.Proof.Nodes
public import Idealize.ShloMosaic.Lib.DynamicIndex

@[expose] public section

noncomputable section

namespace Cert.Proof

open Idealize.ShloMosaic Idealize.ShloMosaic.TcCoe
open Cert.KernelIdeal.Gen Cert.KernelIdeal.Val
open Cert.ReferenceIdeal.Step (State step)

/-- The gate weights as the kernel holds them: the input's rows over the hidden state's. -/
def stacked (Wi Wh : Vec Ideal Cert.KernelIdeal.S128x512 .f32) : Vec Ideal Cert.KernelIdeal.S256x512 .f32 :=
  concatenate Cert.KernelIdeal.S256x512 0 [⟨Cert.KernelIdeal.S128x512, Wi⟩, ⟨Cert.KernelIdeal.S128x512, Wh⟩]
    Cert.KernelIdeal.Gen.facts.concatenates_S128x512_S128x512_S256x512_d0

/-- The gate bias as the kernel holds it: the sum of the two biases, in one row. -/
def summed (bi bh : Vec Ideal Cert.KernelIdeal.S512 .f32) : Vec Ideal Cert.KernelIdeal.S1x512 .f32 :=
  shapeCast Cert.KernelIdeal.S1x512 (addf (F := Ideal) (φ := .f32) bi bh) Cert.KernelIdeal.Gen.facts.shapeCasts_S512_S1x512

section Step

variable {x : Vec Ideal Cert.KernelIdeal.S1x64x128 .f32} {h k : Vec Ideal Cert.KernelIdeal.S64x128 .f32}
  {Wi Wh : Vec Ideal Cert.KernelIdeal.S128x512 .f32} {bi bh : Vec Ideal Cert.KernelIdeal.S512 .f32}
  {j : ℕ} {s : State Ideal} (hx : Cert.ReferenceIdeal.Step.b2 j s = x) (h6 : s.main_v4_6 = h) (h7 : s.main_v4_7 = k)
  (h1 : s.main_v4_1 = Wi) (h2 : s.main_v4_2 = Wh) (h3 : s.main_v4_3 = bi) (h4 : s.main_v4_4 = bh)

include hx h6 h1 h2 h3 h4

/-- The gates: the kernel's one product of input and hidden state with the stacked weights, plus the summed bias, is the
    reference's two products plus the two biases. -/
theorem gates_eq : k0_pay7 x h (stacked Wi Wh) (summed bi bh) = Cert.ReferenceIdeal.Step.b12 j s := by
  funext i
  obtain ⟨p, q, rfl⟩ : ∃ p q, i = ix2 p q := ⟨i 0, i 1, eq_ix2 i⟩
  simp only [Cert.ReferenceIdeal.Step.b12, Cert.ReferenceIdeal.Step.b11, Cert.ReferenceIdeal.Step.b10,
    Cert.ReferenceIdeal.Step.b9, Cert.ReferenceIdeal.Step.b8, Cert.ReferenceIdeal.Step.b7, Cert.ReferenceIdeal.Step.b6,
    Cert.ReferenceIdeal.Step.b5, Cert.ReferenceIdeal.Step.b4, Cert.ReferenceIdeal.Step.b3, hx, h6, h1, h2, h3, h4]
  unfold stacked summed
  pointwise [k0_pay7]
  exact (add_assoc _ _ _).symm

include h7

/-- The cell state after a step. -/
theorem cell_eq : k0_pay8 x h (stacked Wi Wh) (summed bi bh) k = Cert.ReferenceIdeal.Step.b36 j s := by
  funext i
  obtain ⟨p, q, rfl⟩ : ∃ p q, i = ix2 p q := ⟨i 0, i 1, eq_ix2 i⟩
  unfold k0_pay8
  rw [gates_eq hx h6 h1 h2 h3 h4]
  pointwise [Cert.ReferenceIdeal.Step.b36, Cert.ReferenceIdeal.Step.b35, Cert.ReferenceIdeal.Step.b34,
    Cert.ReferenceIdeal.Step.b33, Cert.ReferenceIdeal.Step.b32, Cert.ReferenceIdeal.Step.b31, Cert.ReferenceIdeal.Step.b30,
    Cert.ReferenceIdeal.Step.b29, Cert.ReferenceIdeal.Step.b28, Cert.ReferenceIdeal.Step.b27, Cert.ReferenceIdeal.Step.b26,
    Cert.ReferenceIdeal.Step.b25, Cert.ReferenceIdeal.Step.b24, Cert.ReferenceIdeal.Step.b23, Cert.ReferenceIdeal.Step.b22,
    Cert.ReferenceIdeal.Step.b21, Cert.ReferenceIdeal.Step.b20, Cert.ReferenceIdeal.Step.b19, Cert.ReferenceIdeal.Step.b18,
    Cert.ReferenceIdeal.Step.b17, Cert.ReferenceIdeal.Step.b15, Cert.ReferenceIdeal.Step.b14, Cert.ReferenceIdeal.Step.b13]
  rw [h7]
  rfl

/-- The hidden state after a step. -/
theorem hidden_eq : k0_pay9 x h (stacked Wi Wh) (summed bi bh) k = Cert.ReferenceIdeal.Step.b46 j s := by
  funext i
  obtain ⟨p, q, rfl⟩ : ∃ p q, i = ix2 p q := ⟨i 0, i 1, eq_ix2 i⟩
  unfold k0_pay9
  rw [gates_eq hx h6 h1 h2 h3 h4, cell_eq hx h6 h7 h1 h2 h3 h4]
  pointwise [Cert.ReferenceIdeal.Step.b46, Cert.ReferenceIdeal.Step.b45, Cert.ReferenceIdeal.Step.b44,
    Cert.ReferenceIdeal.Step.b43, Cert.ReferenceIdeal.Step.b42, Cert.ReferenceIdeal.Step.b41, Cert.ReferenceIdeal.Step.b40,
    Cert.ReferenceIdeal.Step.b39, Cert.ReferenceIdeal.Step.b38, Cert.ReferenceIdeal.Step.b37, Cert.ReferenceIdeal.Step.b16]
  rfl

end Step

/-- The reference's input block of step `j` is row `j` of its embedding. -/
theorem row_eq {j : ℕ} (hj : j < 512) (s : State Ideal) (E : Vec Ideal Cert.KernelIdeal.S512x64x128 .f32)
    (h0 : s.main_v4_0 = E) : Cert.ReferenceIdeal.Step.b2 j s = rowAt E j := by
  funext i
  obtain ⟨o, p, q, rfl⟩ : ∃ o p q, i = ix3 o p q := ⟨i 0, i 1, i 2, eq_ix3 i⟩
  unfold Cert.ReferenceIdeal.Step.b2
  rw [Host.dynamicSlice_eq_extractStridedSlice (s := Cert.ReferenceIdeal.S512x64x128) Cert.ReferenceIdeal.S1x64x128 _ _ ![j, 0, 0] _
    ⟨rfl, fun a => by fin_cases a <;> simp <;> omega⟩
    (fun a => by
      fin_cases a
      · exact toInt_ofNat_of_lt (by omega)
      · rfl
      · rfl), h0]
  unfold rowAt
  pointwise
  exact congrArg (fun a => E (ix3 a p q)) (Fin.ext (Nat.mod_eq_of_lt hj).symm)

/-- The reference's stack of hidden states after step `j`: row `j` is the step's hidden state, the other rows are kept. -/
theorem stack_eq {j : ℕ} (hj : j < 512) (s : State Ideal) (t : Fin 512) (p : Fin 64) (q : Fin 128) :
    Cert.ReferenceIdeal.Step.b50 j s (ix3 t p q) =
      if t.val = j then Cert.ReferenceIdeal.Step.b46 j s (ix2 p q) else s.main_v4_8 (ix3 t p q) := by
  unfold Cert.ReferenceIdeal.Step.b50
  rw [Host.dynamicUpdateSlice_eq_updateSlice (s := Cert.ReferenceIdeal.S512x64x128) (u := Cert.ReferenceIdeal.S1x64x128) _ _ _ _ ![j, 0, 0]
    (fun a => by
      fin_cases a
      · show (min (max (BitVec.ofNat 32 j).toInt 0) _).toNat = j
        rw [toInt_ofNat_of_lt (by omega)]
        simp
        omega
      · rfl
      · rfl)
    ⟨rfl, fun a => by fin_cases a <;> simp <;> omega⟩]
  pointwise [Cert.ReferenceIdeal.Step.b47]
  by_cases e : t.val = j
  · rw [dif_pos ⟨by omega, by omega⟩, if_pos e]
  · rw [dif_neg (by omega), if_neg e]

section Iterate

variable {X : Vec Ideal Cert.KernelIdeal.S64x512x128 .f32} {Wi Wh : Vec Ideal Cert.KernelIdeal.S128x512 .f32}
  {bi bh : Vec Ideal Cert.KernelIdeal.S512 .f32} {it : ℕ → State Ideal}

/-- The word embedding with time first. -/
def timeFirst (X : Vec Ideal Cert.KernelIdeal.S64x512x128 .f32) : Vec Ideal Cert.KernelIdeal.S512x64x128 .f32 :=
  transpose Cert.KernelIdeal.S512x64x128 [1, 0, 2] X Cert.KernelIdeal.Gen.facts.transposes_S64x512x128_S512x64x128_1_0_2

/-- The kernel's hidden state and cell state after `n` steps, of the arguments. -/
abbrev hc (X : Vec Ideal Cert.KernelIdeal.S64x512x128 .f32) (Wi Wh : Vec Ideal Cert.KernelIdeal.S128x512 .f32)
    (bi bh : Vec Ideal Cert.KernelIdeal.S512 .f32) (n : ℕ) :=
  hcAt (timeFirst X) (stacked Wi Wh) (summed bi bh) n

variable (h0 : it 0 = Cert.ReferenceIdeal.Step.init Wi Wh bi bh X) (hs : ∀ n, it (n + 1) = step n (it n))

include h0 hs

/-- The reference's loop keeps the embedding, the weights and the biases. -/
theorem kept (n : ℕ) : (it n).main_v4_0 = timeFirst X ∧ (it n).main_v4_1 = Wi ∧ (it n).main_v4_2 = Wh
    ∧ (it n).main_v4_3 = bi ∧ (it n).main_v4_4 = bh := by
  induction n with
  | zero => rw [h0]; exact ⟨rfl, rfl, rfl, rfl, rfl⟩
  | succ n ih => rw [hs n]; exact ih

/-- After `n` steps the reference holds the kernel's hidden and cell states. -/
theorem states {n : ℕ} (hn : n ≤ 512) :
    (it n).main_v4_6 = (hc X Wi Wh bi bh n).1 ∧ (it n).main_v4_7 = (hc X Wi Wh bi bh n).2 := by
  induction n with
  | zero => rw [h0]; exact ⟨rfl, rfl⟩
  | succ n ih =>
    obtain ⟨e6, e7⟩ := ih (by omega)
    obtain ⟨k0, k1, k2, k3, k4⟩ := kept h0 hs n
    rw [hs n]
    exact ⟨(hidden_eq (row_eq (by omega) _ _ k0) e6 e7 k1 k2 k3 k4).symm, (cell_eq (row_eq (by omega) _ _ k0) e6 e7 k1 k2 k3 k4).symm⟩

/-- After `n` steps row `t < n` of the reference's stack is the kernel's hidden state after `t + 1` steps. -/
theorem stacked_rows {n : ℕ} (hn : n ≤ 512) (t : Fin 512) (ht : t.val < n) (p : Fin 64) (q : Fin 128) :
    (it n).main_v4_8 (ix3 t p q) = (hc X Wi Wh bi bh (t.val + 1)).1 (ix2 p q) := by
  induction n with
  | zero => omega
  | succ n ih =>
    rw [hs n]
    refine (stack_eq (by omega) (it n) t p q).trans ?_
    by_cases e : t.val = n
    · rw [if_pos e, e, ← (states h0 hs hn).1, hs n]
      rfl
    · rw [if_neg e]
      exact ih (by omega) (by omega)

end Iterate

/-! ## The hidden states are real -/

/-- The logistic function takes every extended real to a real number. -/
theorem logistic_real (x : EReal) : ∃ r : ℝ, Ideal.logistic x = (r : EReal) := by
  induction x with
  | bot => exact ⟨0, by simp⟩
  | coe r => exact ⟨_, Ideal.logistic_coe r⟩
  | top => exact ⟨1, by simp⟩

/-- The hyperbolic tangent takes every extended real to a real number. -/
theorem tanh_real (x : EReal) : ∃ r : ℝ, Ideal.tanh x = (r : EReal) := by
  induction x with
  | bot => exact ⟨-1, by simp⟩
  | coe r => exact ⟨_, Ideal.tanh_coe r⟩
  | top => exact ⟨1, by simp⟩

/-- A hidden state after at least one step is a real number at every index, whatever the arguments hold. -/
theorem hidden_real (E : Vec Ideal Cert.KernelIdeal.S512x64x128 .f32) (W : Vec Ideal Cert.KernelIdeal.S256x512 .f32)
    (b : Vec Ideal Cert.KernelIdeal.S1x512 .f32) (n : ℕ) (i : Cert.KernelIdeal.S64x128.Idx) :
    ∃ r : ℝ, (hcAt E W b (n + 1)).1 i = (r : EReal) := by
  obtain ⟨a, ha⟩ := logistic_real (extractStridedSlice Cert.KernelIdeal.S64x128 ![0, 384]
    (k0_pay7 (rowAt E n) (hcAt E W b n).1 W b) Cert.KernelIdeal.Gen.facts.slices_S64x512_o0_384_S64x128 i)
  obtain ⟨t, ht⟩ := tanh_real (k0_pay8 (rowAt E n) (hcAt E W b n).1 W b (hcAt E W b n).2 i)
  exact ⟨a * t, (congrArg₂ (· * ·) ha ht).trans (EReal.coe_mul a t).symm⟩

/-! ## The pooled sums -/

/-- The kernel's test for equality, as a float, is one where the words are equal and zero elsewhere. -/
theorem indicator (x y : BitVec 32) :
    FloatOps.sitofp (F := Ideal) FTy.f32 (BitVec.setWidth 32 (IntOp.cmpi .eq x y)) = if x = y then (1 : EReal) else 0 := by
  by_cases e : x = y
  · subst e
    rw [if_pos rfl]
    show (((BitVec.setWidth 32 (BitVec.ofBool (x == x))).toInt : ℝ) : EReal) = 1
    rw [beq_self_eq_true]
    simp
  · rw [if_neg e]
    show (((BitVec.setWidth 32 (BitVec.ofBool (x == y))).toInt : ℝ) : EReal) = 0
    rw [beq_false_of_ne e]
    simp

/-- The pooled sum after `n` steps: each step adds its hidden state, weighted by a quarter of how often the sentence's four
    positions name the step. -/
theorem pool_sum (pos : Vec Ideal Cert.KernelIdeal.S64x4 .i32) (E : Vec Ideal Cert.KernelIdeal.S512x64x128 .f32)
    (W : Vec Ideal Cert.KernelIdeal.S256x512 .f32) (b : Vec Ideal Cert.KernelIdeal.S1x512 .f32) (n : ℕ) (p : Fin 64) (q : Fin 128) :
    poolAt pos E W b n (ix2 p q) = ∑ t ∈ Finset.range n,
      (∑ k : Fin 4, if pos (ix2 p k) = BitVec.ofNat 32 t then (1 : EReal) else 0) * Ideal.ofBits .f32 0x3E800000#32
        * (hcAt E W b (t + 1)).1 (ix2 p q) := by
  induction n with
  | zero =>
    show k0_pay5 (F := Ideal) (ix2 p q) = _
    pointwise [k0_pay5]
    rw [Finset.range_zero, Finset.sum_empty]
  | succ n ih =>
    rw [Finset.sum_range_succ, ← ih]
    show k0_pay1 _ _ _ _ (ix2 p q) = _
    pointwise [k0_pay1]
    simp only [indicator]

end Cert.Proof

end
-- ==== Proof.Take.lean ====
/-
  The rows of a sentence at four positions, read at an index, where the positions name rows the sentence has.
-/
module

public import proofs.«01_k».proof.Proof.Host
public import Idealize.ShloMosaic.Lib.ReduceAll

@[expose] public section

noncomputable section

namespace Cert.KernelIdeal.Val

open Cert.KernelIdeal Cert.KernelIdeal.Gen Idealize.ShloMosaic Idealize.ShloMosaic.TcCoe

variable {F : FTy → Type} [FloatOps F]

/-- A position names a row of a sentence. -/
def InRange (v : BitVec 32) : Prop := 0 ≤ v.toInt ∧ v.toInt < 512

/-- The row a position in range names. -/
theorem InRange.lt {v : BitVec 32} (h : InRange v) : v.toInt.toNat < 512 := by
  obtain ⟨h0, h1⟩ := h
  omega

/-- The gather's dimension numbers: one row of each sentence per start index. -/
abbrev D : GatherDims S64x512x128 S64x4x1 S64x4x128 := gather_S64x512x128_S64x4x1_S64x4x128_2_1_0_0_1_2_11128

/-- The gather at an index: the row its start index names, read signed and kept inside the sentence. -/
theorem gather_apply (x : Vec F S64x512x128 .f32) (idx : Vec F S64x4x1 .i32) (p : Fin 64) (k : Fin 4) (q : Fin 128) :
    Host.gather D x idx (ix3 p k q)
      = x (ix3 p ⟨min (BitVec.toInt (idx (ix3 p k 0))).toNat 511, by omega⟩ q) := by
  unfold Host.gather
  refine congrArg x (funext fun a => Fin.ext ?_)
  match a with
  | ⟨0, _⟩ =>
    show GatherDims.start D (ix3 p k q) idx 0 + D.batchCoord (ix3 p k q) 0 + D.offCoord (ix3 p k q) 0 = p.val
    rw [D.start_batching _ _ _ (List.mem_singleton.mpr rfl),
      D.offCoord_eq_zero _ _ (fun h => ((D.mem_sKept _).mp h).2 (List.mem_singleton.mpr rfl)), Nat.zero_add, Nat.add_zero]
    unfold GatherDims.batchCoord
    rw [dif_pos (show (0 : Fin 3) ∈ D.operandBatchingDims from List.mem_singleton.mpr rfl)]
    rfl
  | ⟨1, _⟩ =>
    show GatherDims.start D (ix3 p k q) idx 1 + D.batchCoord (ix3 p k q) 1 + D.offCoord (ix3 p k q) 1
      = min (BitVec.toInt (idx (ix3 p k 0))).toNat 511
    rw [D.batchCoord_eq_zero _ _ (by decide),
      D.offCoord_eq_zero _ _ (fun h => ((D.mem_sKept _).mp h).1 (List.mem_singleton.mpr rfl))]
    simp only [Nat.add_zero]
    unfold GatherDims.start
    rw [dif_pos (show (1 : Fin 3) ∈ D.startIndexMap from List.mem_singleton.mpr rfl)]
    refine congrArg (fun b => min (BitVec.toInt (idx b)).toNat 511) (funext fun b => Fin.ext ?_)
    match b with
    | ⟨0, _⟩ => rfl
    | ⟨1, _⟩ => rfl
    | ⟨2, _⟩ => rfl
  | ⟨2, _⟩ =>
    show GatherDims.start D (ix3 p k q) idx 2 + D.batchCoord (ix3 p k q) 2 + D.offCoord (ix3 p k q) 2 = q.val
    rw [D.batchCoord_eq_zero _ _ (by decide), Nat.add_zero]
    unfold GatherDims.start
    rw [dif_neg (by decide), Nat.zero_add]
    unfold GatherDims.offCoord
    rw [dif_pos ((D.mem_sKept _).mpr ⟨by decide, by decide⟩)]
    rfl

section

variable {pos : Vec F S64x4 .i32} (hpos : ∀ p k, InRange (pos (ix2 p k)))

/-- The four positions per sentence as the gather takes them, with a last axis of one. -/
abbrev column (pos : Vec F S64x4 .i32) : Vec F S64x4x1 .i32 := broadcastInDim S64x4x1 ![0, 1] bcast_S64x4_S64x4x1_0_1 pos

/-- The added axis is not read: an entry of the column is the position. -/
theorem column_apply (p : Fin 64) (k : Fin 4) (o : Fin 1) : column (F := F) pos (ix3 p k o) = pos (ix2 p k) := by
  refine congrArg pos (funext fun a => Fin.ext ?_)
  match a with
  | ⟨0, _⟩ => rfl
  | ⟨1, _⟩ => rfl

include hpos

/-- A position in range is not negative, so it is not wrapped. -/
theorem wrapPos_apply (p : Fin 64) (k : Fin 4) (o : Fin 1) :
    wrapPos (F := F) (column (F := F) pos) (ix3 p k o) = pos (ix2 p k) := by
  have e : cmpi .slt (column (F := F) pos) (broadcastInDim S64x4x1 ![] bcast_S_S64x4x1 (constantI S_ 32 0#32)) (ix3 p k o) ≠ 1#1 := by
    intro h
    have h' := IntOp.cmpi_slt.mp h
    rw [column_apply] at h'
    exact absurd h' (not_lt.mpr (hpos p k).1)
  refine (if_neg ?_).trans (column_apply p k o)
  exact e

/-- Where every position is in range, the rows taken are the rows the positions name. -/
theorem takeRows_apply (x : Vec F S64x512x128 .f32) (p : Fin 64) (k : Fin 4) (q : Fin 128) :
    takeRows x (column (F := F) pos) (ix3 p k q) = x (ix3 p ⟨(pos (ix2 p k)).toInt.toNat, (hpos p k).lt⟩ q) := by
  unfold takeRows
  refine (if_pos ?_).trans ?_
  · refine Host.reduce_andi_one _ _ _ _ _ rfl fun i => ?_
    obtain ⟨a, b, o, rfl⟩ : ∃ a b o, i = ix3 a b o := ⟨i 0, i 1, i 2, eq_ix3 i⟩
    refine IntOp.andi_eq_one.mpr ⟨IntOp.cmpi_sge.mpr ?_, IntOp.cmpi_sle.mpr ?_⟩
    · rw [wrapPos_apply hpos]
      exact (hpos a b).1
    · rw [wrapPos_apply hpos]
      exact Int.le_of_lt_add_one (hpos a b).2
  · rw [gather_apply]
    refine congrArg (fun r => x (ix3 p r q)) (Fin.ext ?_)
    show min (BitVec.toInt (wrapPos (F := F) (column (F := F) pos) (ix3 p k 0))).toNat 511 = _
    rw [wrapPos_apply hpos]
    exact min_eq_left (Nat.le_of_lt_succ (hpos p k).lt)

end

/-- Where every position is in range, the mean of the rows at the positions is their sum by four. -/
theorem meanAt_apply {pos : Vec Ideal S64x4 .i32} (hpos : ∀ p k, InRange (pos (ix2 p k))) (x : Vec Ideal S64x512x128 .f32)
    (p : Fin 64) (q : Fin 128) :
    meanAt x pos (ix2 p q) = Ideal.div
      (Ideal.ofBits .f32 0x00000000#32 + ∑ k : Fin 4, x (ix3 p ⟨(pos (ix2 p k)).toInt.toNat, (hpos p k).lt⟩ q))
      (Ideal.ofBits .f32 0x40800000#32) := by
  unfold meanAt
  have e : takeRows x (column (F := Ideal) pos) = fun i => takeRows x (column (F := Ideal) pos) i := rfl
  pointwise [meanRows]
  simp only [takeRows_apply hpos]

end Cert.KernelIdeal.Val

end
-- ==== Proof.Pooled.lean ====
/-
  The kernel's pooled sums are the means the reference takes of the hidden states, where the positions name rows.
-/
module

public import proofs.«01_k».proof.Proof.Lstm
public import proofs.«01_k».proof.Proof.Take

@[expose] public section

noncomputable section

namespace Cert.Proof

open Idealize.ShloMosaic Idealize.ShloMosaic.TcCoe
open Cert.KernelIdeal.Gen Cert.KernelIdeal.Val
open Cert.ReferenceIdeal.Step (State step)

/-- The kernel's weight is a quarter. -/
theorem quarter : Ideal.ofBits .f32 0x3E800000#32 = ((1 / 4 : ℝ) : EReal) := by
  simp [Ideal.ofBits, Ideal.ieee, -EReal.coe_mul]
  norm_num

/-- The reference's divisor is four. -/
theorem four : Ideal.ofBits .f32 0x40800000#32 = ((4 : ℝ) : EReal) := by
  simp [Ideal.ofBits, Ideal.ieee, -EReal.coe_mul]
  norm_num

/-- The reduction starts at zero. -/
theorem zero : Ideal.ofBits .f32 0x00000000#32 = (0 : EReal) := by
  simp [Ideal.ofBits, Ideal.ieee]

/-- A finite sum of real numbers, taken over the extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A position in range equals the word of a step exactly when it names that step's row. -/
theorem position_eq {v : BitVec 32} (h : InRange v) {t : ℕ} (ht : t < 512) :
    v = BitVec.ofNat 32 t ↔ v.toInt.toNat = t := by
  have e : (BitVec.ofNat 32 t).toInt = (t : ℤ) := toInt_ofNat_of_lt (by omega)
  obtain ⟨h0, h1⟩ := h
  rw [← BitVec.toInt_inj, e]
  omega

/-- Summing the weighted indicators over the steps picks, for each of the four positions, the value at its row. -/
theorem weighted_sum (r : ℕ → ℝ) (f : Fin 4 → ℕ) (hf : ∀ k, f k < 512) :
    ∑ t ∈ Finset.range 512, (∑ k : Fin 4, if f k = t then (1 : ℝ) else 0) * (1 / 4) * r t = (∑ k : Fin 4, r (f k)) * (1 / 4) := by
  have e : ∀ t ∈ Finset.range 512, (∑ k : Fin 4, if f k = t then (1 : ℝ) else 0) * (1 / 4) * r t
      = ∑ k : Fin 4, if f k = t then r t * (1 / 4) else 0 := by
    intro t _
    rw [mul_assoc, Finset.sum_mul]
    refine Finset.sum_congr rfl fun k _ => ?_
    split <;> ring
  rw [Finset.sum_congr rfl e, Finset.sum_comm, Finset.sum_mul]
  refine Finset.sum_congr rfl fun k _ => ?_
  rw [Finset.sum_ite_eq, if_pos (Finset.mem_range.mpr (hf k))]

/-- The kernel's pooled sum after all steps is the mean of the hidden states at the positions: each position in range adds
    a quarter of the hidden state of the step it names, and every hidden state is a real number, so the order of summing
    and the place of the quarter do not matter. -/
theorem pool_eq {pos : Vec Ideal Cert.KernelIdeal.S64x4 .i32} (hpos : ∀ p k, InRange (pos (ix2 p k)))
    (E : Vec Ideal Cert.KernelIdeal.S512x64x128 .f32) (W : Vec Ideal Cert.KernelIdeal.S256x512 .f32)
    (b : Vec Ideal Cert.KernelIdeal.S1x512 .f32) (S : Vec Ideal Cert.KernelIdeal.S64x512x128 .f32)
    (hS : ∀ (p : Fin 64) (t : Fin 512) (q : Fin 128), S (ix3 p t q) = (hcAt E W b (t.val + 1)).1 (ix2 p q)) :
    poolAt pos E W b 512 = meanAt S pos := by
  funext i
  obtain ⟨p, q, rfl⟩ : ∃ p q, i = ix2 p q := ⟨i 0, i 1, eq_ix2 i⟩
  choose r hr using fun t => hidden_real E W b t (ix2 p q)
  rw [pool_sum, meanAt_apply hpos, quarter, four, zero, zero_add, Ideal.div_coe (by norm_num)]
  have e₁ : ∀ t ∈ Finset.range 512,
      (∑ k : Fin 4, if pos (ix2 p k) = BitVec.ofNat 32 t then (1 : EReal) else 0) * ((1 / 4 : ℝ) : EReal)
        * (hcAt E W b (t + 1)).1 (ix2 p q)
      = (((∑ k : Fin 4, if (BitVec.toInt (pos (ix2 p k))).toNat = t then (1 : ℝ) else 0) * (1 / 4) * r t : ℝ) : EReal) := by
    intro t ht
    rw [hr t, EReal.coe_mul, EReal.coe_mul]
    refine congrArg (fun x : EReal => x * ((1 / 4 : ℝ) : EReal) * (r t : EReal)) ?_
    rw [coe_sum]
    refine Finset.sum_congr rfl fun k _ => ?_
    by_cases h : (BitVec.toInt (pos (ix2 p k))).toNat = t
    · rw [if_pos h, if_pos ((position_eq (hpos p k) (Finset.mem_range.mp ht)).mpr h)]
      rfl
    · rw [if_neg h, if_neg fun h' => h ((position_eq (hpos p k) (Finset.mem_range.mp ht)).mp h')]
      rfl
  have e₂ : ∀ k ∈ (Finset.univ : Finset (Fin 4)),
      S (ix3 p ⟨(BitVec.toInt (pos (ix2 p k))).toNat, (hpos p k).lt⟩ q) = ((r (BitVec.toInt (pos (ix2 p k))).toNat : ℝ) : EReal) :=
    fun k _ => (hS _ _ _).trans (hr _)
  rw [Finset.sum_congr rfl e₁, Finset.sum_congr rfl e₂, ← coe_sum, ← coe_sum, ← EReal.coe_mul]
  exact congrArg _ (weighted_sum r _ fun k => (hpos p k).lt)

section

variable {X : Vec Ideal Cert.KernelIdeal.S64x512x128 .f32} {Wi Wh : Vec Ideal Cert.KernelIdeal.S128x512 .f32}
  {bi bh : Vec Ideal Cert.KernelIdeal.S512 .f32} {it : ℕ → State Ideal}
  (h0 : it 0 = Cert.ReferenceIdeal.Step.init Wi Wh bi bh X) (hs : ∀ n, it (n + 1) = step n (it n))
  {pos : Vec Ideal Cert.KernelIdeal.S64x4 .i32} (hpos : ∀ p k, InRange (pos (ix2 p k)))

include h0 hs

/-- The reference's hidden states, sentence first, are the kernel's hidden states after each step. -/
theorem rows_apply (p : Fin 64) (t : Fin 512) (q : Fin 128) :
    transpose Cert.KernelIdeal.S64x512x128 [1, 0, 2] (it 512).main_v4_8
        Cert.ReferenceIdeal.Gen.facts.transposes_S512x64x128_S64x512x128_1_0_2 (ix3 p t q)
      = (hcAt (timeFirst X) (stacked Wi Wh) (summed bi bh) (t.val + 1)).1 (ix2 p q) := by
  refine Eq.trans ?_ (stacked_rows h0 hs le_rfl t t.isLt p q)
  pointwise []

include hpos

/-- The reference's third result is the kernel's pooled sum at the same positions. -/
theorem ref_v137 : Cert.ReferenceIdeal.Step.R_main_v137 (it 512) pos =
    shapeCast Cert.KernelIdeal.S8192 (poolAt pos (timeFirst X) (stacked Wi Wh) (summed bi bh) 512)
      Cert.KernelIdeal.Gen.facts.shapeCasts_S64x128_S8192 := by
  rw [pool_eq hpos _ _ _ _ (rows_apply h0 hs)]
  rfl

/-- The reference's fourth result is the kernel's pooled sum at the same positions. -/
theorem ref_v138 : Cert.ReferenceIdeal.Step.R_main_v138 (it 512) pos =
    shapeCast Cert.KernelIdeal.S8192 (poolAt pos (timeFirst X) (stacked Wi Wh) (summed bi bh) 512)
      Cert.KernelIdeal.Gen.facts.shapeCasts_S64x128_S8192 := by
  rw [pool_eq hpos _ _ _ _ (rows_apply h0 hs)]
  rfl

end

end Cert.Proof

end
-- ==== Proof.Algebraic.lean ====
/-
  The value claim: on equal arguments with every position in range, the kernel and the reference, both over extended
  reals, end with equal results.
-/
module

public import proofs.«01_k».proof.Defs
public import proofs.«01_k».proof.Proof.Frames
public import proofs.«01_k».proof.Proof.Pooled
public import proofs.«01_k».proof.Proof.RefStepRun
public import Idealize.ShloMosaic.Lib.Claim

@[expose] public section

noncomputable section

namespace Cert.Proof

open Idealize.ShloMosaic Idealize.SL.Sem Idealize.ShloMosaic.TcCoe
open Cert.KernelIdeal.Gen Cert.KernelIdeal.Val
open Cert.ReferenceIdeal.Step (State step)

section

variable {m : (ℓ : Loc Cert.KernelIdeal.nD Cert.KernelIdeal.τ Cert.KernelIdeal.sig) → Buf (Elt Ideal) ℓ}
  (hpre : Cert.Pre_KernelIdeal_pos_in_range m)

/-- The precondition's value is one word: its shape has a single index. -/
instance : Subsingleton Cert.Pre_pos_in_range.S_.Idx := ⟨fun _ _ => funext fun a => a.elim0⟩

/-- What the precondition's text computes of one array of positions, when it is one, says of each position. -/
theorem inRange_of {x : Vec Ideal Cert.KernelIdeal.S64x4 .i32} {j : Cert.Pre_pos_in_range.S_.Idx}
    (e : Host.reduce IntOp.andi
      (andi (cmpi .sge x (broadcastInDim Cert.Pre_pos_in_range.S64x4 ![] Cert.Pre_pos_in_range.Facts.bcast_S_S64x4
          (constantI Cert.Pre_pos_in_range.S_ 32 0#32)))
        (cmpi .slt x (broadcastInDim Cert.Pre_pos_in_range.S64x4 ![] Cert.Pre_pos_in_range.Facts.bcast_S_S64x4
          (constantI Cert.Pre_pos_in_range.S_ 32 512#32))))
      (constantI Cert.Pre_pos_in_range.S_ 1 1#1) Cert.Pre_pos_in_range.Facts.reducesTo_S64x4_S_d0_1
      Cert.Pre_pos_in_range.Facts.h_S_ j = 1#1) (p : Fin 64) (k : Fin 4) : InRange (x (ix2 p k)) := by
  obtain ⟨h0, h1⟩ := IntOp.andi_eq_one.mp (Host.reduce_andi_all _ _ _ _ j e (ix2 p k))
  exact ⟨IntOp.cmpi_sge.mp h0, IntOp.cmpi_slt.mp h1⟩

include hpre

/-- Under the precondition every position of both arrays is in range. -/
theorem positions (c : Dev Cert.KernelIdeal.nD) :
    (∀ p k, InRange ((m (c, Proc.devRef .tc Cert.KernelIdeal.main_arg16) : Vec Ideal Cert.KernelIdeal.S64x4 .i32) (ix2 p k)))
    ∧ ∀ p k, InRange ((m (c, Proc.devRef .tc Cert.KernelIdeal.main_arg17) : Vec Ideal Cert.KernelIdeal.S64x4 .i32) (ix2 p k)) := by
  obtain ⟨e, e'⟩ := IntOp.andi_eq_one.mp (congrFun (hpre c) (fun a => a.elim0))
  exact ⟨inRange_of e, inRange_of e'⟩

end

section

variable (m : (ℓ : Loc Cert.KernelIdeal.nD Cert.KernelIdeal.τ Cert.KernelIdeal.sig) → Buf (Elt Ideal) ℓ) (c : Dev Cert.KernelIdeal.nD)

/-- The region finds the stacked weights. -/
theorem weights_eq : arrW m c = stacked (m (c, Proc.devRef .tc Cert.KernelIdeal.main_arg10)) (m (c, Proc.devRef .tc Cert.KernelIdeal.main_arg11)) :=
  V_v105 m c

/-- The region finds the summed biases. -/
theorem bias_eq : arrB m c = summed (m (c, Proc.devRef .tc Cert.KernelIdeal.main_arg12)) (m (c, Proc.devRef .tc Cert.KernelIdeal.main_arg13)) :=
  V_v107 m c

/-- The region finds the embeddings, time first. -/
theorem embeddings_eq : arrE m c = timeFirst (m (c, Proc.devRef .tc Cert.KernelIdeal.main_arg1)) :=
  V_v108 m c

/-- The first pooled output, of the arguments. -/
theorem final5_eq : final5 m c = poolAt (m (c, Proc.devRef .tc Cert.KernelIdeal.main_arg16))
    (timeFirst (m (c, Proc.devRef .tc Cert.KernelIdeal.main_arg1)))
    (stacked (m (c, Proc.devRef .tc Cert.KernelIdeal.main_arg10)) (m (c, Proc.devRef .tc Cert.KernelIdeal.main_arg11)))
    (summed (m (c, Proc.devRef .tc Cert.KernelIdeal.main_arg12)) (m (c, Proc.devRef .tc Cert.KernelIdeal.main_arg13))) 512 := by
  unfold final5
  rw [weights_eq, bias_eq, embeddings_eq, V_main_arg16]

/-- The second pooled output, of the arguments. -/
theorem final6_eq : final6 m c = poolAt (m (c, Proc.devRef .tc Cert.KernelIdeal.main_arg17))
    (timeFirst (m (c, Proc.devRef .tc Cert.KernelIdeal.main_arg1)))
    (stacked (m (c, Proc.devRef .tc Cert.KernelIdeal.main_arg10)) (m (c, Proc.devRef .tc Cert.KernelIdeal.main_arg11)))
    (summed (m (c, Proc.devRef .tc Cert.KernelIdeal.main_arg12)) (m (c, Proc.devRef .tc Cert.KernelIdeal.main_arg13))) 512 := by
  unfold final6
  rw [weights_eq, bias_eq, embeddings_eq, V_main_arg17]

end

/-- The states of the reference's loop, from its first. -/
def states_of (s : State Ideal) : ℕ → State Ideal
  | 0 => s
  | n + 1 => step n (states_of s n)

/-- All four results agree. -/
theorem algebraic : Cert.algebraic_KernelIdeal_ReferenceIdeal_pre_pos_in_range
    (hKernelIdeal := Cert.KernelIdeal.Gen.facts) (hReferenceIdeal := Cert.ReferenceIdeal.Gen.facts)
    (hPre_pos_in_range := preFacts) := by
  intro m g m' g' hpre hagree
  refine ⟨fun c => shapeCast Cert.KernelIdeal.S8192 (meanAt (nodesOf m c) (m (c, Proc.devRef .tc Cert.KernelIdeal.main_arg16)))
      Cert.KernelIdeal.Gen.facts.shapeCasts_S64x128_S8192,
    fun c => shapeCast Cert.KernelIdeal.S8192 (meanAt (nodesOf m c) (m (c, Proc.devRef .tc Cert.KernelIdeal.main_arg17)))
      Cert.KernelIdeal.Gen.facts.shapeCasts_S64x128_S8192,
    fun c => shapeCast Cert.KernelIdeal.S8192 (final5 m c) Cert.KernelIdeal.Gen.facts.shapeCasts_S64x128_S8192,
    fun c => shapeCast Cert.KernelIdeal.S8192 (final6 m c) Cert.KernelIdeal.Gen.facts.shapeCasts_S64x128_S8192, ?_, ?_⟩
  · exact θ_run_mono (θ_run_and (run_values m g) (Cert.KernelIdeal.Gen.unchanged m g))
      fun r h c => ⟨(h.1 c).1, (h.1 c).2.1, (h.1 c).2.2.1, (h.1 c).2.2.2, h.2 c⟩
  · refine θ_run_mono (Cert.ReferenceIdeal.StepRun.run_iter m' g'
      (fun c => states_of (Cert.ReferenceIdeal.StepRun.initState m' c)) (fun _ => rfl) (fun _ _ => rfl)) fun r h c => ?_
    obtain ⟨h0, h1, h2, h3, hrest⟩ := h c
    obtain ⟨a0, a1, a2, a3, a4, a5, a6, a7, a8, a9, a10, a11, a12, a13, a14, a15, a16, a17⟩ := hagree c
    obtain ⟨p0, p1⟩ := positions hpre c
    refine ⟨h0.trans ?_, h1.trans ?_, h2.trans ?_, h3.trans ?_, hrest⟩
    · rw [a0, a2, a3, a4, a5, a6, a7, a8, a9, a14, a15, a16]
      exact ref_v135 ..
    · rw [a0, a2, a3, a4, a5, a6, a7, a8, a9, a14, a15, a17]
      exact ref_v136 ..
    · beta_reduce
      rw [a16, final5_eq]
      exact ref_v137 (by
        show Cert.ReferenceIdeal.StepRun.initState m' c = _
        unfold Cert.ReferenceIdeal.StepRun.initState
        rw [a1, a10, a11, a12, a13]) (fun _ => rfl) p0
    · beta_reduce
      rw [a17, final6_eq]
      exact ref_v138 (by
        show Cert.ReferenceIdeal.StepRun.initState m' c = _
        unfold Cert.ReferenceIdeal.StepRun.initState
        rw [a1, a10, a11, a12, a13]) (fun _ => rfl) p1

end Cert.Proof

end
-- ==== Proof.lean ====
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  preFacts, frame_kernel, frame_kernelIdeal, fun m g _ => frame_kernelIdeal m g trivial, frame_reference,
  fun m g _ => frame_reference m g trivial, trivial, algebraic⟩

end Cert.Proof

end
